-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvRefAIdeal (m : (ℓ : Loc Cert.QkvRefAIdeal.nD Cert.QkvRefAIdeal.τ Cert.QkvRefAIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvRefBIdeal (m : (ℓ : Loc Cert.QkvRefBIdeal.nD Cert.QkvRefBIdeal.τ Cert.QkvRefBIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvRefCIdeal (m : (ℓ : Loc Cert.QkvRefCIdeal.nD Cert.QkvRefCIdeal.τ Cert.QkvRefCIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ r.2.sem = fun _ => 0)

def quiescent_QkvRefAIdeal [hQkvRefAIdeal : Cert.QkvRefAIdeal.Facts] : Prop :=
  ∀ (m : (ℓ : Loc Cert.QkvRefAIdeal.nD Cert.QkvRefAIdeal.τ Cert.QkvRefAIdeal.sig) → Buf (Elt Ideal) ℓ) (g : Dev Cert.QkvRefAIdeal.nD → PrngReg), Pre_QkvRefAIdeal m →
    θ_run (Cert.QkvRefAIdeal.defs (F := Ideal)) (onTc (τ := Cert.QkvRefAIdeal.τ) (Cert.QkvRefAIdeal.main (F := Ideal))) ⟨m, fun _ => 0, g⟩ (fun r => (∀ c : Dev Cert.QkvRefAIdeal.nD,
      r.2.mem ((c.tc : Thread Cert.QkvRefAIdeal.nD Cert.QkvRefAIdeal.τ).loc Cert.QkvRefAIdeal.main_arg0) = m ((c.tc : Thread Cert.QkvRefAIdeal.nD Cert.QkvRefAIdeal.τ).loc Cert.QkvRefAIdeal.main_arg0)
      ∧ r.2.mem ((c.tc : Thread Cert.QkvRefAIdeal.nD Cert.QkvRefAIdeal.τ).loc Cert.QkvRefAIdeal.main_arg1) = m ((c.tc : Thread Cert.QkvRefAIdeal.nD Cert.QkvRefAIdeal.τ).loc Cert.QkvRefAIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvRefBIdeal [hQkvRefBIdeal : Cert.QkvRefBIdeal.Facts] : Prop :=
  ∀ (m : (ℓ : Loc Cert.QkvRefBIdeal.nD Cert.QkvRefBIdeal.τ Cert.QkvRefBIdeal.sig) → Buf (Elt Ideal) ℓ) (g : Dev Cert.QkvRefBIdeal.nD → PrngReg), Pre_QkvRefBIdeal m →
    θ_run (Cert.QkvRefBIdeal.defs (F := Ideal)) (onTc (τ := Cert.QkvRefBIdeal.τ) (Cert.QkvRefBIdeal.main (F := Ideal))) ⟨m, fun _ => 0, g⟩ (fun r => (∀ c : Dev Cert.QkvRefBIdeal.nD,
      r.2.mem ((c.tc : Thread Cert.QkvRefBIdeal.nD Cert.QkvRefBIdeal.τ).loc Cert.QkvRefBIdeal.main_arg0) = m ((c.tc : Thread Cert.QkvRefBIdeal.nD Cert.QkvRefBIdeal.τ).loc Cert.QkvRefBIdeal.main_arg0)
      ∧ r.2.mem ((c.tc : Thread Cert.QkvRefBIdeal.nD Cert.QkvRefBIdeal.τ).loc Cert.QkvRefBIdeal.main_arg1) = m ((c.tc : Thread Cert.QkvRefBIdeal.nD Cert.QkvRefBIdeal.τ).loc Cert.QkvRefBIdeal.main_arg1))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ r.2.sem = fun _ => 0)

def quiescent_QkvRefCIdeal [hQkvRefCIdeal : Cert.QkvRefCIdeal.Facts] : Prop :=
  ∀ (m : (ℓ : Loc Cert.QkvRefCIdeal.nD Cert.QkvRefCIdeal.τ Cert.QkvRefCIdeal.sig) → Buf (Elt Ideal) ℓ) (g : Dev Cert.QkvRefCIdeal.nD → PrngReg), Pre_QkvRefCIdeal m →
    θ_run (Cert.QkvRefCIdeal.defs (F := Ideal)) (onTc (τ := Cert.QkvRefCIdeal.τ) (Cert.QkvRefCIdeal.main (F := Ideal))) ⟨m, fun _ => 0, g⟩ (fun r => (∀ c : Dev Cert.QkvRefCIdeal.nD,
      r.2.mem ((c.tc : Thread Cert.QkvRefCIdeal.nD Cert.QkvRefCIdeal.τ).loc Cert.QkvRefCIdeal.main_arg0) = m ((c.tc : Thread Cert.QkvRefCIdeal.nD Cert.QkvRefCIdeal.τ).loc Cert.QkvRefCIdeal.main_arg0)
      ∧ r.2.mem ((c.tc : Thread Cert.QkvRefCIdeal.nD Cert.QkvRefCIdeal.τ).loc Cert.QkvRefCIdeal.main_arg1) = m ((c.tc : Thread Cert.QkvRefCIdeal.nD Cert.QkvRefCIdeal.τ).loc Cert.QkvRefCIdeal.main_arg1))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_v52) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v23)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v23) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v30) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def preserves_QkvA_QkvAIdeal : Prop :=
  True

def algebraic_QkvAIdeal_QkvRefAIdeal [hQkvAIdeal : Cert.QkvAIdeal.Facts] [hQkvRefAIdeal : Cert.QkvRefAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvRefAIdeal.nD Cert.QkvRefAIdeal.τ Cert.QkvRefAIdeal.sig) → Buf (Elt Ideal) ℓ) (g' : Dev Cert.QkvRefAIdeal.nD → PrngReg), Pre_QkvAIdeal m →
    (∀ c : Dev Cert.QkvAIdeal.nD,
      m' ((c.tc : Thread Cert.QkvRefAIdeal.nD Cert.QkvRefAIdeal.τ).loc Cert.QkvRefAIdeal.main_arg0) = m ((c.tc : Thread Cert.QkvAIdeal.nD Cert.QkvAIdeal.τ).loc Cert.QkvAIdeal.main_arg0)
      ∧ m' ((c.tc : Thread Cert.QkvRefAIdeal.nD Cert.QkvRefAIdeal.τ).loc Cert.QkvRefAIdeal.main_arg1) = m ((c.tc : Thread Cert.QkvAIdeal.nD Cert.QkvAIdeal.τ).loc Cert.QkvAIdeal.main_arg1)) →
    ∃ (v0 : (c : Dev Cert.QkvAIdeal.nD) → Buf (Elt Ideal) ((c.tc : Thread Cert.QkvAIdeal.nD Cert.QkvAIdeal.τ).loc Cert.QkvAIdeal.main_v2)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v2) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ θ_run (Cert.QkvRefAIdeal.defs (F := Ideal)) (onTc (τ := Cert.QkvRefAIdeal.τ) (Cert.QkvRefAIdeal.main (F := Ideal))) ⟨m', fun _ => 0, g'⟩ (fun r => ∀ c : Dev Cert.QkvRefAIdeal.nD,
          r.2.mem ((c.tc : Thread Cert.QkvRefAIdeal.nD Cert.QkvRefAIdeal.τ).loc Cert.QkvRefAIdeal.main_v17) = v0 c
          ∧ r.2.mem ((c.tc : Thread Cert.QkvRefAIdeal.nD Cert.QkvRefAIdeal.τ).loc Cert.QkvRefAIdeal.main_arg0) = m' ((c.tc : Thread Cert.QkvRefAIdeal.nD Cert.QkvRefAIdeal.τ).loc Cert.QkvRefAIdeal.main_arg0)
          ∧ r.2.mem ((c.tc : Thread Cert.QkvRefAIdeal.nD Cert.QkvRefAIdeal.τ).loc Cert.QkvRefAIdeal.main_arg1) = m' ((c.tc : Thread Cert.QkvRefAIdeal.nD Cert.QkvRefAIdeal.τ).loc Cert.QkvRefAIdeal.main_arg1))

def preserves_QkvB_QkvBIdeal : Prop :=
  True

def algebraic_QkvBIdeal_QkvRefBIdeal [hQkvBIdeal : Cert.QkvBIdeal.Facts] [hQkvRefBIdeal : Cert.QkvRefBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvRefBIdeal.nD Cert.QkvRefBIdeal.τ Cert.QkvRefBIdeal.sig) → Buf (Elt Ideal) ℓ) (g' : Dev Cert.QkvRefBIdeal.nD → PrngReg), Pre_QkvBIdeal m →
    (∀ c : Dev Cert.QkvBIdeal.nD,
      m' ((c.tc : Thread Cert.QkvRefBIdeal.nD Cert.QkvRefBIdeal.τ).loc Cert.QkvRefBIdeal.main_arg0) = m ((c.tc : Thread Cert.QkvBIdeal.nD Cert.QkvBIdeal.τ).loc Cert.QkvBIdeal.main_arg0)
      ∧ m' ((c.tc : Thread Cert.QkvRefBIdeal.nD Cert.QkvRefBIdeal.τ).loc Cert.QkvRefBIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v2)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v2) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvRefBIdeal.defs (F := Ideal)) (onTc (τ := Cert.QkvRefBIdeal.τ) (Cert.QkvRefBIdeal.main (F := Ideal))) ⟨m', fun _ => 0, g'⟩ (fun r => ∀ c : Dev Cert.QkvRefBIdeal.nD,
          r.2.mem ((c.tc : Thread Cert.QkvRefBIdeal.nD Cert.QkvRefBIdeal.τ).loc Cert.QkvRefBIdeal.main_v17) = v0 c
          ∧ r.2.mem ((c.tc : Thread Cert.QkvRefBIdeal.nD Cert.QkvRefBIdeal.τ).loc Cert.QkvRefBIdeal.main_arg0) = m' ((c.tc : Thread Cert.QkvRefBIdeal.nD Cert.QkvRefBIdeal.τ).loc Cert.QkvRefBIdeal.main_arg0)
          ∧ r.2.mem ((c.tc : Thread Cert.QkvRefBIdeal.nD Cert.QkvRefBIdeal.τ).loc Cert.QkvRefBIdeal.main_arg1) = m' ((c.tc : Thread Cert.QkvRefBIdeal.nD Cert.QkvRefBIdeal.τ).loc Cert.QkvRefBIdeal.main_arg1))

def preserves_QkvC_QkvCIdeal : Prop :=
  True

def algebraic_QkvCIdeal_QkvRefCIdeal [hQkvCIdeal : Cert.QkvCIdeal.Facts] [hQkvRefCIdeal : Cert.QkvRefCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvRefCIdeal.nD Cert.QkvRefCIdeal.τ Cert.QkvRefCIdeal.sig) → Buf (Elt Ideal) ℓ) (g' : Dev Cert.QkvRefCIdeal.nD → PrngReg), Pre_QkvCIdeal m →
    (∀ c : Dev Cert.QkvCIdeal.nD,
      m' ((c.tc : Thread Cert.QkvRefCIdeal.nD Cert.QkvRefCIdeal.τ).loc Cert.QkvRefCIdeal.main_arg0) = m ((c.tc : Thread Cert.QkvCIdeal.nD Cert.QkvCIdeal.τ).loc Cert.QkvCIdeal.main_arg0)
      ∧ m' ((c.tc : Thread Cert.QkvRefCIdeal.nD Cert.QkvRefCIdeal.τ).loc Cert.QkvRefCIdeal.main_arg1) = m ((c.tc : Thread Cert.QkvCIdeal.nD Cert.QkvCIdeal.τ).loc Cert.QkvCIdeal.main_arg1)) →
    ∃ (v0 : (c : Dev Cert.QkvCIdeal.nD) → Buf (Elt Ideal) ((c.tc : Thread Cert.QkvCIdeal.nD Cert.QkvCIdeal.τ).loc Cert.QkvCIdeal.main_v2)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v2) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ θ_run (Cert.QkvRefCIdeal.defs (F := Ideal)) (onTc (τ := Cert.QkvRefCIdeal.τ) (Cert.QkvRefCIdeal.main (F := Ideal))) ⟨m', fun _ => 0, g'⟩ (fun r => ∀ c : Dev Cert.QkvRefCIdeal.nD,
          r.2.mem ((c.tc : Thread Cert.QkvRefCIdeal.nD Cert.QkvRefCIdeal.τ).loc Cert.QkvRefCIdeal.main_v17) = v0 c
          ∧ r.2.mem ((c.tc : Thread Cert.QkvRefCIdeal.nD Cert.QkvRefCIdeal.τ).loc Cert.QkvRefCIdeal.main_arg0) = m' ((c.tc : Thread Cert.QkvRefCIdeal.nD Cert.QkvRefCIdeal.τ).loc Cert.QkvRefCIdeal.main_arg0)
          ∧ r.2.mem ((c.tc : Thread Cert.QkvRefCIdeal.nD Cert.QkvRefCIdeal.τ).loc Cert.QkvRefCIdeal.main_arg1) = m' ((c.tc : Thread Cert.QkvRefCIdeal.nD Cert.QkvRefCIdeal.τ).loc Cert.QkvRefCIdeal.main_arg1))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hQkvA : Cert.QkvA.Facts) (hQkvAIdeal : Cert.QkvAIdeal.Facts) (hQkvRefAIdeal : Cert.QkvRefAIdeal.Facts) (hQkvB : Cert.QkvB.Facts) (hQkvBIdeal : Cert.QkvBIdeal.Facts) (hQkvRefBIdeal : Cert.QkvRefBIdeal.Facts) (hQkvC : Cert.QkvC.Facts) (hQkvCIdeal : Cert.QkvCIdeal.Facts) (hQkvRefCIdeal : Cert.QkvRefCIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_QkvA (hQkvA := hQkvA)
    ∧ quiescent_QkvAIdeal (hQkvAIdeal := hQkvAIdeal)
    ∧ quiescent_QkvRefAIdeal (hQkvRefAIdeal := hQkvRefAIdeal)
    ∧ quiescent_QkvB (hQkvB := hQkvB)
    ∧ quiescent_QkvBIdeal (hQkvBIdeal := hQkvBIdeal)
    ∧ quiescent_QkvRefBIdeal (hQkvRefBIdeal := hQkvRefBIdeal)
    ∧ quiescent_QkvC (hQkvC := hQkvC)
    ∧ quiescent_QkvCIdeal (hQkvCIdeal := hQkvCIdeal)
    ∧ quiescent_QkvRefCIdeal (hQkvRefCIdeal := hQkvRefCIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Experts_ExpertsIdeal
    ∧ algebraic_ExpertsIdeal_ExpertsRefIdeal (hExpertsIdeal := hExpertsIdeal) (hExpertsRefIdeal := hExpertsRefIdeal)
    ∧ preserves_QkvA_QkvAIdeal
    ∧ algebraic_QkvAIdeal_QkvRefAIdeal (hQkvAIdeal := hQkvAIdeal) (hQkvRefAIdeal := hQkvRefAIdeal)
    ∧ preserves_QkvB_QkvBIdeal
    ∧ algebraic_QkvBIdeal_QkvRefBIdeal (hQkvBIdeal := hQkvBIdeal) (hQkvRefBIdeal := hQkvRefBIdeal)
    ∧ preserves_QkvC_QkvCIdeal
    ∧ algebraic_QkvCIdeal_QkvRefCIdeal (hQkvCIdeal := hQkvCIdeal) (hQkvRefCIdeal := hQkvRefCIdeal)
-- ==== Pre_finite.lean ====
abbrev S4x4096x3072 : Shape := ⟨3, ![4, 4096, 3072]⟩
abbrev S_ : Shape := ⟨0, ![]⟩

class Facts : Prop where
  bitsLt_bf16_f32 : FTy.bits .bf16 < FTy.bits .f32
  bcast_S_S4x4096x3072 : S_.BroadcastsInDim S4x4096x3072 (![] : Fin 0 → Fin S4x4096x3072.rank)
  reducesTo_S4x4096x3072_S_d0_1_2 : S4x4096x3072.ReducesTo [0, 1, 2] S_
  h_S_ : 0 < S_.numel

variable [Facts]

def fn {F : FTy → Type} [FloatOps F] (main_arg0 : FVec F S4x4096x3072 .bf16) : IVec S_ 1 :=
  let main_v0 : FVec F S4x4096x3072 .f32 := (extf .f32 · bitsLt_bf16_f32) main_arg0
  let main_v1 : FVec F S4x4096x3072 .f32 := Host.absf main_v0
  let main_cst : FVec F S_ .f32 := constant S_ .f32 0x7F800000#32
  let main_v2 : FVec F S4x4096x3072 .f32 := broadcastInDim S4x4096x3072 ![] bcast_S_S4x4096x3072 main_cst
  let main_v3 : IVec S4x4096x3072 1 := cmpf .olt main_v1 main_v2
  let main_c : IVec S_ 1 := constantI S_ 1 1#1
  let main_v4 : IVec S_ 1 := (fun x v => Host.reduce IntOp.andi x v reducesTo_S4x4096x3072_S_d0_1_2 h_S_) main_v3 main_c
  main_v4
-- ==== Attn.lean ====
abbrev S4x4096x3072 : Shape := ⟨3, ![4, 4096, 3072]⟩
abbrev S4x4096x1024 : Shape := ⟨3, ![4, 4096, 1024]⟩
abbrev S4x4096x128 : Shape := ⟨3, ![4, 4096, 128]⟩
abbrev S1x1024x1024 : Shape := ⟨3, ![1, 1024, 1024]⟩
abbrev S1x128x1024 : Shape := ⟨3, ![1, 128, 1024]⟩
abbrev S1x1024x128 : Shape := ⟨3, ![1, 1024, 128]⟩
abbrev S2x16x256x128 : Shape := ⟨4, ![2, 16, 256, 128]⟩
abbrev S256x128 : Shape := ⟨2, ![256, 128]⟩
abbrev S1x1x256x128 : Shape := ⟨4, ![1, 1, 256, 128]⟩
abbrev S1x128 : Shape := ⟨2, ![1, 128]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S112x128 : Shape := ⟨2, ![112, 128]⟩

abbrev nBuf : Space → Nat
  | .hbm => 3
  | .vmem => 15
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x1024, .bf16⟩
  | .hbm, ⟨2, _⟩ => ⟨S4x4096x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | .local _ .vmem, ⟨14, _⟩ => ⟨S2x16x256x128, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_off1 (i : grid0.Coords) : Fin 4 → Nat :=
  let arg1 : BitVec 32 := BitVec.ofNat 32 (i 1).val
  let c1_i32 : BitVec 32 := 1#32
  let v11 : BitVec 32 := Scalar.minsi arg1 c1_i32
  let v30 : Index := Scalar.indexCast v11
  let c0_18 : Index := 0#32
  let c0_19 : Index := 0#32
  let c0_20 : Index := 0#32
  ![v30.toNat, 0, 0, 0]
def k0_off2 (i : grid0.Coords) : Fin 4 → Nat :=
  let arg1 : BitVec 32 := BitVec.ofNat 32 (i 1).val
  let c1_i32 : BitVec 32 := 1#32
  let v11 : BitVec 32 := Scalar.minsi arg1 c1_i32
  let v57 : Index := Scalar.indexCast v11
  let c1 : Index := 1#32
  let c0_29 : Index := 0#32
  let c0_30 : Index := 0#32
  ![v57.toNat, 1, 0, 0]
def k0_off3 (i : grid0.Coords) : Fin 4 → Nat :=
  let arg1 : BitVec 32 := BitVec.ofNat 32 (i 1).val
  let c1_i32 : BitVec 32 := 1#32
  let v11 : BitVec 32 := Scalar.minsi arg1 c1_i32
  let v102 : Index := Scalar.indexCast v11
  let c2 : Index := 2#32
  let c0_55 : Index := 0#32
  let c0_56 : Index := 0#32
  ![v102.toNat, 2, 0, 0]
def k0_off4 (i : grid0.Coords) : Fin 4 → Nat :=
  let arg1 : BitVec 32 := BitVec.ofNat 32 (i 1).val
  let c1_i32 : BitVec 32 := 1#32
  let v11 : BitVec 32 := Scalar.minsi arg1 c1_i32
  let v129 : Index := Scalar.indexCast v11
  let c3 : Index := 3#32
  let c0_65 : Index := 0#32
  let c0_66 : Index := 0#32
  ![v129.toNat, 3, 0, 0]
def k0_off5 (i : grid0.Coords) : Fin 4 → Nat :=
  let arg1 : BitVec 32 := BitVec.ofNat 32 (i 1).val
  let c1_i32 : BitVec 32 := 1#32
  let v11 : BitVec 32 := Scalar.minsi arg1 c1_i32
  let v174 : Index := Scalar.indexCast v11
  let c4 : Index := 4#32
  let c0_91 : Index := 0#32
  let c0_92 : Index := 0#32
  ![v174.toNat, 4, 0, 0]
def k0_off6 (i : grid0.Coords) : Fin 4 → Nat :=
  let arg1 : BitVec 32 := BitVec.ofNat 32 (i 1).val
  let c1_i32 : BitVec 32 := 1#32
  let v11 : BitVec 32 := Scalar.minsi arg1 c1_i32
  let v201 : Index := Scalar.indexCast v11
  let c5 : Index := 5#32
  let c0_101 : Index := 0#32
  let c0_102 : Index := 0#32
  ![v201.toNat, 5, 0, 0]
def k0_off7 (i : grid0.Coords) : Fin 4 → Nat :=
  let arg1 : BitVec 32 := BitVec.ofNat 32 (i 1).val
  let c1_i32 : BitVec 32 := 1#32
  let v11 : BitVec 32 := Scalar.minsi arg1 c1_i32
  let v246 : Index := Scalar.indexCast v11
  let c6 : Index := 6#32
  let c0_127 : Index := 0#32
  let c0_128 : Index := 0#32
  ![v246.toNat, 6, 0, 0]
def k0_off8 (i : grid0.Coords) : Fin 4 → Nat :=
  let arg1 : BitVec 32 := BitVec.ofNat 32 (i 1).val
  let c1_i32 : BitVec 32 := 1#32
  let v11 : BitVec 32 := Scalar.minsi arg1 c1_i32
  let v273 : Index := Scalar.indexCast v11
  let c7 : Index := 7#32
  let c0_137 : Index := 0#32
  let c0_138 : Index := 0#32
  ![v273.toNat, 7, 0, 0]
def k0_off9 (i : grid0.Coords) : Fin 4 → Nat :=
  let arg1 : BitVec 32 := BitVec.ofNat 32 (i 1).val
  let c1_i32 : BitVec 32 := 1#32
  let v11 : BitVec 32 := Scalar.minsi arg1 c1_i32
  let v318 : Index := Scalar.indexCast v11
  let c8 : Index := 8#32
  let c0_163 : Index := 0#32
  let c0_164 : Index := 0#32
  ![v318.toNat, 8, 0, 0]
def k0_off10 (i : grid0.Coords) : Fin 4 → Nat :=
  let arg1 : BitVec 32 := BitVec.ofNat 32 (i 1).val
  let c1_i32 : BitVec 32 := 1#32
  let v11 : BitVec 32 := Scalar.minsi arg1 c1_i32
  let v345 : Index := Scalar.indexCast v11
  let c9 : Index := 9#32
  let c0_173 : Index := 0#32
  let c0_174 : Index := 0#32
  ![v345.toNat, 9, 0, 0]
def k0_off11 (i : grid0.Coords) : Fin 4 → Nat :=
  let arg1 : BitVec 32 := BitVec.ofNat 32 (i 1).val
  let c1_i32 : BitVec 32 := 1#32
  let v11 : BitVec 32 := Scalar.minsi arg1 c1_i32
  let v390 : Index := Scalar.indexCast v11
  let c10 : Index := 10#32
  let c0_199 : Index := 0#32
  let c0_200 : Index := 0#32
  ![v390.toNat, 10, 0, 0]
def k0_off12 (i : grid0.Coords) : Fin 4 → Nat :=
  let arg1 : BitVec 32 := BitVec.ofNat 32 (i 1).val
  let c1_i32 : BitVec 32 := 1#32
  let v11 : BitVec 32 := Scalar.minsi arg1 c1_i32
  let v417 : Index := Scalar.indexCast v11
  let c11 : Index := 11#32
  let c0_209 : Index := 0#32
  let c0_210 : Index := 0#32
  ![v417.toNat, 11, 0, 0]
def k0_off13 (i : grid0.Coords) : Fin 4 → Nat :=
  let arg1 : BitVec 32 := BitVec.ofNat 32 (i 1).val
  let c1_i32 : BitVec 32 := 1#32
  let v11 : BitVec 32 := Scalar.minsi arg1 c1_i32
  let v462 : Index := Scalar.indexCast v11
  let c12 : Index := 12#32
  let c0_235 : Index := 0#32
  let c0_236 : Index := 0#32
  ![v462.toNat, 12, 0, 0]
def k0_off14 (i : grid0.Coords) : Fin 4 → Nat :=
  let arg1 : BitVec 32 := BitVec.ofNat 32 (i 1).val
  let c1_i32 : BitVec 32 := 1#32
  let v11 : BitVec 32 := Scalar.minsi arg1 c1_i32
  let v489 : Index := Scalar.indexCast v11
  let c13 : Index := 13#32
  let c0_245 : Index := 0#32
  let c0_246 : Index := 0#32
  ![v489.toNat, 13, 0, 0]
def k0_off15 (i : grid0.Coords) : Fin 4 → Nat :=
  let arg1 : BitVec 32 := BitVec.ofNat 32 (i 1).val
  let c1_i32 : BitVec 32 := 1#32
  let v11 : BitVec 32 := Scalar.minsi arg1 c1_i32
  let v534 : Index := Scalar.indexCast v11
  let c14 : Index := 14#32
  let c0_271 : Index := 0#32
  let c0_272 : Index := 0#32
  ![v534.toNat, 14, 0, 0]
def k0_off16 (i : grid0.Coords) : Fin 4 → Nat :=
  let arg1 : BitVec 32 := BitVec.ofNat 32 (i 1).val
  let c1_i32 : BitVec 32 := 1#32
  let v11 : BitVec 32 := Scalar.minsi arg1 c1_i32
  let v561 : Index := Scalar.indexCast v11
  let c15 : Index := 15#32
  let c0_281 : Index := 0#32
  let c0_282 : Index := 0#32
  ![v561.toNat, 15, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4x4096x3072 : Shape := ⟨3, ![4, 4096, 3072]⟩
abbrev S16 : Shape := ⟨1, ![16]⟩
abbrev S4x4096x1024 : Shape := ⟨3, ![4, 4096, 1024]⟩
abbrev S4x4096x16x64 : Shape := ⟨4, ![4, 4096, 16, 64]⟩
abbrev S1x16x1x1 : Shape := ⟨4, ![1, 16, 1, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x16x4096x4096 : Shape := ⟨4, ![4, 16, 4096, 4096]⟩
abbrev S_ : Shape := ⟨0, ![]⟩
abbrev S1x1x4096x4096 : Shape := ⟨4, ![1, 1, 4096, 4096]⟩
abbrev S1x16x4096x4096 : Shape := ⟨4, ![1, 16, 4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x16 : Shape := ⟨3, ![4, 4096, 16]⟩
abbrev S4x4096x128 : Shape := ⟨3, ![4, 4096, 128]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S16, .f32⟩
  | .hbm, ⟨2, _⟩ => ⟨S4x4096x1024, .bf16⟩
  | .hbm, ⟨3, _⟩ => ⟨S4x4096x1024, .f32⟩
  | .hbm, ⟨4, _⟩ => ⟨S4x4096x16x64, .f32⟩
  | .hbm, ⟨5, _⟩ => ⟨S4x4096x1024, .bf16⟩
  | .hbm, ⟨6, _⟩ => ⟨S4x4096x1024, .f32⟩
  | .hbm, ⟨7, _⟩ => ⟨S4x4096x16x64, .f32⟩
  | .hbm, ⟨8, _⟩ => ⟨S4x4096x1024, .bf16⟩
  | .hbm, ⟨9, _⟩ => ⟨S4x4096x1024, .f32⟩
  | .hbm, ⟨10, _⟩ => ⟨S4x4096x16x64, .f32⟩
  | .hbm, ⟨11, _⟩ => ⟨S1x16x1x1, .f32⟩
  | .hbm, ⟨12, _⟩ => ⟨S4096, .i32⟩
  | .hbm, ⟨13, _⟩ => ⟨S4096x1, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4x16x4096x4096, .f32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .f32⟩
  | .hbm, ⟨23, _⟩ => ⟨S1x1x4096x4096, .f32⟩
  | .hbm, ⟨24, _⟩ => ⟨S1x16x4096x4096, .f32⟩
  | .hbm, ⟨25, _⟩ => ⟨S1x16x4096x4096, .f32⟩
  | .hbm, ⟨26, _⟩ => ⟨S1x16x4096x4096, .f32⟩
  | .hbm, ⟨27, _⟩ => ⟨S4x16x4096x4096, .f32⟩
  | .hbm, ⟨28, _⟩ => ⟨S4x16x4096x4096, .f32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4x16x4096x4096, .i1⟩
  | .hbm, ⟨39, _⟩ => ⟨S4x16x4096x4096, .f32⟩
  | .hbm, ⟨40, _⟩ => ⟨S4x16x4096x4096, .f32⟩
  | .hbm, ⟨41, _⟩ => ⟨S_, .f32⟩
  | .hbm, ⟨42, _⟩ => ⟨S4x16x4096, .f32⟩
  | .hbm, ⟨43, _⟩ => ⟨S4x16x4096x1, .f32⟩
  | .hbm, ⟨44, _⟩ => ⟨S4x16x4096x4096, .f32⟩
  | .hbm, ⟨45, _⟩ => ⟨S4x16x4096x4096, .f32⟩
  | .hbm, ⟨46, _⟩ => ⟨S_, .f32⟩
  | .hbm, ⟨47, _⟩ => ⟨S4x16x4096x4096, .f32⟩
  | .hbm, ⟨48, _⟩ => ⟨S4x16x4096x4096, .f32⟩
  | .hbm, ⟨49, _⟩ => ⟨S_, .f32⟩
  | .hbm, ⟨50, _⟩ => ⟨S4x16x4096, .f32⟩
  | .hbm, ⟨51, _⟩ => ⟨S4x16x4096x1, .f32⟩
  | .hbm, ⟨52, _⟩ => ⟨S4x16x4096x4096, .f32⟩
  | .hbm, ⟨53, _⟩ => ⟨S4x16x4096x4096, .f32⟩
  | .hbm, ⟨54, _⟩ => ⟨S4x16x64x4096, .f32⟩
  | .hbm, ⟨55, _⟩ => ⟨S4x4096x16x64, .f32⟩
  | .hbm, ⟨56, _⟩ => ⟨S4x16x4096x1, .f32⟩
  | .hbm, ⟨57, _⟩ => ⟨S_, .f32⟩
  | .hbm, ⟨58, _⟩ => ⟨S4x16x4096x1, .f32⟩
  | .hbm, ⟨59, _⟩ => ⟨S4x16x4096x1, .f32⟩
  | .hbm, ⟨60, _⟩ => ⟨S4x16x4096x1, .f32⟩
  | .hbm, ⟨61, _⟩ => ⟨S4x16x4096, .f32⟩
  | .hbm, ⟨62, _⟩ => ⟨S4x4096x16, .f32⟩
  | .hbm, ⟨63, _⟩ => ⟨S4x4096x1024, .f32⟩
  | .hbm, ⟨64, _⟩ => ⟨S4x4096x1024, .bf16⟩
  | .hbm, ⟨65, _⟩ => ⟨S_, .i32⟩
  | .hbm, ⟨66, _⟩ => ⟨S_, .f32⟩
  | .hbm, ⟨67, _⟩ => ⟨S4x4096x128, .f32⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_c_0 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_7 : Ref sig .tc := ⟨.hbm, 65, rfl⟩
abbrev main_call1_v0 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Experts.lean ====
abbrev S36864x1024 : Shape := ⟨2, ![36864, 1024]⟩
abbrev S16 : Shape := ⟨1, ![16]⟩
abbrev S4x16x1024x512 : Shape := ⟨4, ![4, 16, 1024, 512]⟩
abbrev S4x16x256x1024 : Shape := ⟨4, ![4, 16, 256, 1024]⟩
abbrev S_ : Shape := ⟨0, ![]⟩
abbrev S144 : Shape := ⟨1, ![144]⟩
abbrev S144x1 : Shape := ⟨2, ![144, 1]⟩
abbrev S1x16 : Shape := ⟨2, ![1, 16]⟩
abbrev S144x16 : Shape := ⟨2, ![144, 16]⟩
abbrev S294912x128 : Shape := ⟨2, ![294912, 128]⟩
abbrev S2048x128 : Shape := ⟨2, ![2048, 128]⟩
abbrev S1x1x1024x512 : Shape := ⟨4, ![1, 1, 1024, 512]⟩
abbrev S1 : Shape := ⟨1, ![1]⟩
abbrev S1x1x256x1024 : Shape := ⟨4, ![1, 1, 256, 1024]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 52
  | .vmem => 8
  | .smem => 1
  | _ => 0

abbrev bufTy : (tb : Table) → Fin (tcTables nBuf tb) → BufTy
  | .hbm, ⟨0, _⟩ => ⟨S36864x1024, .f32⟩
  | .hbm, ⟨1, _⟩ => ⟨S16, .i32⟩
  | .hbm, ⟨2, _⟩ => ⟨S4x16x1024x512, .f32⟩
  | .hbm, ⟨3, _⟩ => ⟨S4x16x256x1024, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S16, .i32⟩
  | .hbm, ⟨34, _⟩ => ⟨S144, .i32⟩
  | .hbm, ⟨35, _⟩ => ⟨S_, .i32⟩
  | .hbm, ⟨36, _⟩ => ⟨S144, .i32⟩
  | .hbm, ⟨37, _⟩ => ⟨S144, .i32⟩
  | .hbm, ⟨38, _⟩ => ⟨S144x1, .i32⟩
  | .hbm, ⟨39, _⟩ => ⟨S1x16, .i32⟩
  | .hbm, ⟨40, _⟩ => ⟨S144x16, .i32⟩
  | .hbm, ⟨41, _⟩ => ⟨S144x16, .i32⟩
  | .hbm, ⟨42, _⟩ => ⟨S144x16, .i1⟩
  | .hbm, ⟨43, _⟩ => ⟨S144x16, .i32⟩
  | .hbm, ⟨44, _⟩ => ⟨S_, .i32⟩
  | .hbm, ⟨45, _⟩ => ⟨S144, .i32⟩
  | .hbm, ⟨46, _⟩ => ⟨S_, .i32⟩
  | .hbm, ⟨47, _⟩ => ⟨S144, .i32⟩
  | .hbm, ⟨48, _⟩ => ⟨S294912x128, .f32⟩
  | .hbm, ⟨49, _⟩ => ⟨S4x16x1024x512, .bf16⟩
  | .hbm, ⟨50, _⟩ => ⟨S4x16x256x1024, .bf16⟩
  | .hbm, ⟨51, _⟩ => ⟨S294912x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S2048x128, .f32⟩
  | .local _ .vmem, ⟨7, _⟩ => ⟨S2048x128, .f32⟩
  | .local _ .smem, ⟨0, _⟩ => ⟨S144, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S36864x1024 : Shape := ⟨2, ![36864, 1024]⟩
abbrev S16 : Shape := ⟨1, ![16]⟩
abbrev S4x16x1024x512 : Shape := ⟨4, ![4, 16, 1024, 512]⟩
abbrev S4x16x256x1024 : Shape := ⟨4, ![4, 16, 256, 1024]⟩
abbrev S_ : Shape := ⟨0, ![]⟩
abbrev S36864 : Shape := ⟨1, ![36864]⟩
abbrev S36864x1 : Shape := ⟨2, ![36864, 1]⟩
abbrev S1x16 : Shape := ⟨2, ![1, 16]⟩
abbrev S36864x16 : Shape := ⟨2, ![36864, 16]⟩
abbrev S1x16x1024x512 : Shape := ⟨4, ![1, 16, 1024, 512]⟩
abbrev S16x1024x512 : Shape := ⟨3, ![16, 1024, 512]⟩
abbrev S36864x16x512 : Shape := ⟨3, ![36864, 16, 512]⟩
abbrev S36864x16x256 : Shape := ⟨3, ![36864, 16, 256]⟩
abbrev S36864x16x1 : Shape := ⟨3, ![36864, 16, 1]⟩
abbrev S1x16x256x1024 : Shape := ⟨4, ![1, 16, 256, 1024]⟩
abbrev S16x256x1024 : Shape := ⟨3, ![16, 256, 1024]⟩
abbrev S294912x128 : Shape := ⟨2, ![294912, 128]⟩

abbrev nBuf : Space → Nat
  | .hbm => 71
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S16, .i32⟩
  | .hbm, ⟨2, _⟩ => ⟨S4x16x1024x512, .f32⟩
  | .hbm, ⟨3, _⟩ => ⟨S4x16x256x1024, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S16, .i32⟩
  | .hbm, ⟨31, _⟩ => ⟨S36864, .i32⟩
  | .hbm, ⟨32, _⟩ => ⟨S36864x1, .i32⟩
  | .hbm, ⟨33, _⟩ => ⟨S1x16, .i32⟩
  | .hbm, ⟨34, _⟩ => ⟨S36864x16, .i32⟩
  | .hbm, ⟨35, _⟩ => ⟨S36864x16, .i32⟩
  | .hbm, ⟨36, _⟩ => ⟨S36864x16, .i1⟩
  | .hbm, ⟨37, _⟩ => ⟨S36864x16, .i32⟩
  | .hbm, ⟨38, _⟩ => ⟨S_, .i32⟩
  | .hbm, ⟨39, _⟩ => ⟨S36864, .i32⟩
  | .hbm, ⟨40, _⟩ => ⟨S_, .i32⟩
  | .hbm, ⟨41, _⟩ => ⟨S36864, .i32⟩
  | .hbm, ⟨42, _⟩ => ⟨S36864, .i32⟩
  | .hbm, ⟨43, _⟩ => ⟨S36864x1, .i32⟩
  | .hbm, ⟨44, _⟩ => ⟨S1x16, .i32⟩
  | .hbm, ⟨45, _⟩ => ⟨S36864x16, .i32⟩
  | .hbm, ⟨46, _⟩ => ⟨S36864x16, .i32⟩
  | .hbm, ⟨47, _⟩ => ⟨S36864x16, .i1⟩
  | .hbm, ⟨48, _⟩ => ⟨S36864x16, .f32⟩
  | .hbm, ⟨49, _⟩ => ⟨S1x16x1024x512, .f32⟩
  | .hbm, ⟨50, _⟩ => ⟨S16x1024x512, .f32⟩
  | .hbm, ⟨51, _⟩ => ⟨S36864x16x512, .f32⟩
  | .hbm, ⟨52, _⟩ => ⟨S36864x16x256, .f32⟩
  | .hbm, ⟨53, _⟩ => ⟨S36864x16x256, .f32⟩
  | .hbm, ⟨54, _⟩ => ⟨S36864x16x256, .f32⟩
  | .hbm, ⟨55, _⟩ => ⟨S_, .f32⟩
  | .hbm, ⟨56, _⟩ => ⟨S36864x16x256, .f32⟩
  | .hbm, ⟨57, _⟩ => ⟨S36864x16x256, .f32⟩
  | .hbm, ⟨58, _⟩ => ⟨S_, .f32⟩
  | .hbm, ⟨59, _⟩ => ⟨S36864x16x256, .f32⟩
  | .hbm, ⟨60, _⟩ => ⟨S36864x16x256, .f32⟩
  | .hbm, ⟨61, _⟩ => ⟨S36864x16x256, .f32⟩
  | .hbm, ⟨62, _⟩ => ⟨S36864x16x256, .f32⟩
  | .hbm, ⟨63, _⟩ => ⟨S36864x16x256, .f32⟩
  | .hbm, ⟨64, _⟩ => ⟨S36864x16x1, .f32⟩
  | .hbm, ⟨65, _⟩ => ⟨S36864x16x256, .f32⟩
  | .hbm, ⟨66, _⟩ => ⟨S36864x16x256, .f32⟩
  | .hbm, ⟨67, _⟩ => ⟨S1x16x256x1024, .f32⟩
  | .hbm, ⟨68, _⟩ => ⟨S16x256x1024, .f32⟩
  | .hbm, ⟨69, _⟩ => ⟨S36864x1024, .f32⟩
  | .hbm, ⟨70, _⟩ => ⟨S294912x128, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩

abbrev nD : Nat := 1
abbrev τ : Topo := Topo.v7x

variable {F : FTy → Type} [FloatOps F]
-- ==== QkvA.lean ====
abbrev S16384x1024 : Shape := ⟨2, ![16384, 1024]⟩
abbrev S2x1024x9216 : Shape := ⟨3, ![2, 1024, 9216]⟩
abbrev S1x16384x3072 : Shape := ⟨3, ![1, 16384, 3072]⟩
abbrev S1024x1024 : Shape := ⟨2, ![1024, 1024]⟩
abbrev S1x1024x1024 : Shape := ⟨3, ![1, 1024, 1024]⟩
abbrev S8x1024x128 : Shape := ⟨3, ![8, 1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S16384x1024, .bf16⟩
  | .hbm, ⟨3, _⟩ => ⟨S2x1024x9216, .bf16⟩
  | .hbm, ⟨4, _⟩ => ⟨S1x16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvAIdeal.lean ====
abbrev S16384x1024 : Shape := ⟨2, ![16384, 1024]⟩
abbrev S2x1024x9216 : Shape := ⟨3, ![2, 1024, 9216]⟩
abbrev S1x16384x3072 : Shape := ⟨3, ![1, 16384, 3072]⟩
abbrev S1024x1024 : Shape := ⟨2, ![1024, 1024]⟩
abbrev S1x1024x1024 : Shape := ⟨3, ![1, 1024, 1024]⟩
abbrev S8x1024x128 : Shape := ⟨3, ![8, 1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S16384x1024, .bf16⟩
  | .hbm, ⟨3, _⟩ => ⟨S2x1024x9216, .bf16⟩
  | .hbm, ⟨4, _⟩ => ⟨S1x16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefAIdeal.lean ====
abbrev S16384x1024 : Shape := ⟨2, ![16384, 1024]⟩
abbrev S2x1024x9216 : Shape := ⟨3, ![2, 1024, 9216]⟩
abbrev S1x1024x9216 : Shape := ⟨3, ![1, 1024, 9216]⟩
abbrev S1024x9216 : Shape := ⟨2, ![1024, 9216]⟩
abbrev S16384x9216 : Shape := ⟨2, ![16384, 9216]⟩
abbrev S16384x3x3x1024 : Shape := ⟨4, ![16384, 3, 3, 1024]⟩
abbrev S16384x1x3x1024 : Shape := ⟨4, ![16384, 1, 3, 1024]⟩
abbrev S16384x3x1024 : Shape := ⟨3, ![16384, 3, 1024]⟩
abbrev S3 : Shape := ⟨1, ![3]⟩
abbrev S_ : Shape := ⟨0, ![]⟩
abbrev S1x3x1 : Shape := ⟨3, ![1, 3, 1]⟩
abbrev S16384x3072 : Shape := ⟨2, ![16384, 3072]⟩
abbrev S16384x1x3072 : Shape := ⟨3, ![16384, 1, 3072]⟩
abbrev S1x16384x3072 : Shape := ⟨3, ![1, 16384, 3072]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S1x1024x9216, .f32⟩
  | .hbm, ⟨3, _⟩ => ⟨S1024x9216, .f32⟩
  | .hbm, ⟨4, _⟩ => ⟨S16384x9216, .f32⟩
  | .hbm, ⟨5, _⟩ => ⟨S16384x3x3x1024, .f32⟩
  | .hbm, ⟨6, _⟩ => ⟨S16384x1x3x1024, .f32⟩
  | .hbm, ⟨7, _⟩ => ⟨S16384x3x1024, .f32⟩
  | .hbm, ⟨8, _⟩ => ⟨S3, .i32⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .f32⟩
  | .hbm, ⟨13, _⟩ => ⟨S_, .f32⟩
  | .hbm, ⟨14, _⟩ => ⟨S3, .f32⟩
  | .hbm, ⟨15, _⟩ => ⟨S3, .f32⟩
  | .hbm, ⟨16, _⟩ => ⟨S3, .f32⟩
  | .hbm, ⟨17, _⟩ => ⟨S3, .f32⟩
  | .hbm, ⟨18, _⟩ => ⟨S1x3x1, .f32⟩
  | .hbm, ⟨19, _⟩ => ⟨S16384x3x1024, .f32⟩
  | .hbm, ⟨20, _⟩ => ⟨S16384x3x1024, .f32⟩
  | .hbm, ⟨21, _⟩ => ⟨S16384x3072, .f32⟩
  | .hbm, ⟨22, _⟩ => ⟨S16384x1x3072, .f32⟩
  | .hbm, ⟨23, _⟩ => ⟨S1x16384x3072, .f32⟩
  | .hbm, ⟨24, _⟩ => ⟨S1x16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== QkvB.lean ====
abbrev S16384x1024 : Shape := ⟨2, ![16384, 1024]⟩
abbrev S2x1024x9216 : Shape := ⟨3, ![2, 1024, 9216]⟩
abbrev S4x4096x3072 : Shape := ⟨3, ![4, 4096, 3072]⟩
abbrev S1024x1024 : Shape := ⟨2, ![1024, 1024]⟩
abbrev S1x1024x1024 : Shape := ⟨3, ![1, 1024, 1024]⟩
abbrev S4x256x1024 : Shape := ⟨3, ![4, 256, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S16384x1024, .bf16⟩
  | .hbm, ⟨3, _⟩ => ⟨S2x1024x9216, .bf16⟩
  | .hbm, ⟨4, _⟩ => ⟨S4x4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S8x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvBIdeal.lean ====
abbrev S16384x1024 : Shape := ⟨2, ![16384, 1024]⟩
abbrev S2x1024x9216 : Shape := ⟨3, ![2, 1024, 9216]⟩
abbrev S4x4096x3072 : Shape := ⟨3, ![4, 4096, 3072]⟩
abbrev S1024x1024 : Shape := ⟨2, ![1024, 1024]⟩
abbrev S1x1024x1024 : Shape := ⟨3, ![1, 1024, 1024]⟩
abbrev S4x256x1024 : Shape := ⟨3, ![4, 256, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S16384x1024, .bf16⟩
  | .hbm, ⟨3, _⟩ => ⟨S2x1024x9216, .bf16⟩
  | .hbm, ⟨4, _⟩ => ⟨S4x4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S8x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefBIdeal.lean ====
abbrev S16384x1024 : Shape := ⟨2, ![16384, 1024]⟩
abbrev S2x1024x9216 : Shape := ⟨3, ![2, 1024, 9216]⟩
abbrev S1x1024x9216 : Shape := ⟨3, ![1, 1024, 9216]⟩
abbrev S1024x9216 : Shape := ⟨2, ![1024, 9216]⟩
abbrev S16384x9216 : Shape := ⟨2, ![16384, 9216]⟩
abbrev S16384x3x3x1024 : Shape := ⟨4, ![16384, 3, 3, 1024]⟩
abbrev S16384x1x3x1024 : Shape := ⟨4, ![16384, 1, 3, 1024]⟩
abbrev S16384x3x1024 : Shape := ⟨3, ![16384, 3, 1024]⟩
abbrev S3 : Shape := ⟨1, ![3]⟩
abbrev S_ : Shape := ⟨0, ![]⟩
abbrev S1x3x1 : Shape := ⟨3, ![1, 3, 1]⟩
abbrev S16384x3072 : Shape := ⟨2, ![16384, 3072]⟩
abbrev S4096x4x3072 : Shape := ⟨3, ![4096, 4, 3072]⟩
abbrev S4x4096x3072 : Shape := ⟨3, ![4, 4096, 3072]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S1x1024x9216, .f32⟩
  | .hbm, ⟨3, _⟩ => ⟨S1024x9216, .f32⟩
  | .hbm, ⟨4, _⟩ => ⟨S16384x9216, .f32⟩
  | .hbm, ⟨5, _⟩ => ⟨S16384x3x3x1024, .f32⟩
  | .hbm, ⟨6, _⟩ => ⟨S16384x1x3x1024, .f32⟩
  | .hbm, ⟨7, _⟩ => ⟨S16384x3x1024, .f32⟩
  | .hbm, ⟨8, _⟩ => ⟨S3, .i32⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .f32⟩
  | .hbm, ⟨13, _⟩ => ⟨S_, .f32⟩
  | .hbm, ⟨14, _⟩ => ⟨S3, .f32⟩
  | .hbm, ⟨15, _⟩ => ⟨S3, .f32⟩
  | .hbm, ⟨16, _⟩ => ⟨S3, .f32⟩
  | .hbm, ⟨17, _⟩ => ⟨S3, .f32⟩
  | .hbm, ⟨18, _⟩ => ⟨S1x3x1, .f32⟩
  | .hbm, ⟨19, _⟩ => ⟨S16384x3x1024, .f32⟩
  | .hbm, ⟨20, _⟩ => ⟨S16384x3x1024, .f32⟩
  | .hbm, ⟨21, _⟩ => ⟨S16384x3072, .f32⟩
  | .hbm, ⟨22, _⟩ => ⟨S4096x4x3072, .f32⟩
  | .hbm, ⟨23, _⟩ => ⟨S4x4096x3072, .f32⟩
  | .hbm, ⟨24, _⟩ => ⟨S4x4096x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== QkvC.lean ====
abbrev S16384x1024 : Shape := ⟨2, ![16384, 1024]⟩
abbrev S2x1024x9216 : Shape := ⟨3, ![2, 1024, 9216]⟩
abbrev S16x1024x3072 : Shape := ⟨3, ![16, 1024, 3072]⟩
abbrev S1024x1024 : Shape := ⟨2, ![1024, 1024]⟩
abbrev S1x1024x1024 : Shape := ⟨3, ![1, 1024, 1024]⟩
abbrev S16x64x1024 : Shape := ⟨3, ![16, 64, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S64x1024 : Shape := ⟨2, ![64, 1024]⟩
abbrev S1x64x1024 : Shape := ⟨3, ![1, 64, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S16384x1024, .bf16⟩
  | .hbm, ⟨3, _⟩ => ⟨S2x1024x9216, .bf16⟩
  | .hbm, ⟨4, _⟩ => ⟨S16x1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S16x64x1024, .bf16⟩
  | .local _ .vmem, ⟨5, _⟩ => ⟨S16x64x1024, .bf16⟩
  | .local _ .vmem, ⟨6, _⟩ => ⟨S8x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefCIdeal.lean ====
abbrev S16384x1024 : Shape := ⟨2, ![16384, 1024]⟩
abbrev S2x1024x9216 : Shape := ⟨3, ![2, 1024, 9216]⟩
abbrev S1x1024x9216 : Shape := ⟨3, ![1, 1024, 9216]⟩
abbrev S1024x9216 : Shape := ⟨2, ![1024, 9216]⟩
abbrev S16384x9216 : Shape := ⟨2, ![16384, 9216]⟩
abbrev S16384x3x3x1024 : Shape := ⟨4, ![16384, 3, 3, 1024]⟩
abbrev S16384x1x3x1024 : Shape := ⟨4, ![16384, 1, 3, 1024]⟩
abbrev S16384x3x1024 : Shape := ⟨3, ![16384, 3, 1024]⟩
abbrev S3 : Shape := ⟨1, ![3]⟩
abbrev S_ : Shape := ⟨0, ![]⟩
abbrev S1x3x1 : Shape := ⟨3, ![1, 3, 1]⟩
abbrev S16384x3072 : Shape := ⟨2, ![16384, 3072]⟩
abbrev S1024x16x3072 : Shape := ⟨3, ![1024, 16, 3072]⟩
abbrev S16x1024x3072 : Shape := ⟨3, ![16, 1024, 3072]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9216, .f32⟩
  | .hbm, ⟨2, _⟩ => ⟨S1x1024x9216, .f32⟩
  | .hbm, ⟨3, _⟩ => ⟨S1024x9216, .f32⟩
  | .hbm, ⟨4, _⟩ => ⟨S16384x9216, .f32⟩
  | .hbm, ⟨5, _⟩ => ⟨S16384x3x3x1024, .f32⟩
  | .hbm, ⟨6, _⟩ => ⟨S16384x1x3x1024, .f32⟩
  | .hbm, ⟨7, _⟩ => ⟨S16384x3x1024, .f32⟩
  | .hbm, ⟨8, _⟩ => ⟨S3, .i32⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .f32⟩
  | .hbm, ⟨13, _⟩ => ⟨S_, .f32⟩
  | .hbm, ⟨14, _⟩ => ⟨S3, .f32⟩
  | .hbm, ⟨15, _⟩ => ⟨S3, .f32⟩
  | .hbm, ⟨16, _⟩ => ⟨S3, .f32⟩
  | .hbm, ⟨17, _⟩ => ⟨S3, .f32⟩
  | .hbm, ⟨18, _⟩ => ⟨S1x3x1, .f32⟩
  | .hbm, ⟨19, _⟩ => ⟨S16384x3x1024, .f32⟩
  | .hbm, ⟨20, _⟩ => ⟨S16384x3x1024, .f32⟩
  | .hbm, ⟨21, _⟩ => ⟨S16384x3072, .f32⟩
  | .hbm, ⟨22, _⟩ => ⟨S1024x16x3072, .f32⟩
  | .hbm, ⟨23, _⟩ => ⟨S16x1024x3072, .f32⟩
  | .hbm, ⟨24, _⟩ => ⟨S16x1024x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Layer.RefFrames.lean ====
module

public import proofs.«01_k».proof.Defs
public import proofs.«01_k».proof.Proof.Gen.AttnRefIdeal.Run
public import proofs.«01_k».proof.Proof.Gen.QkvRefAIdeal.Run
public import proofs.«01_k».proof.Proof.Gen.QkvRefBIdeal.Run
public import proofs.«01_k».proof.Proof.Gen.QkvRefCIdeal.Run
public import Idealize.ShloMosaic.Lib.StableHlo.RunHlo
public import Idealize.ShloMosaic.Lib.Claim

/-! The references run to the end, leave their arguments as they were and every semaphore at zero: they are host
operations only, and declare no semaphore. -/

@[expose] public section

noncomputable section

namespace Cert.Layer

open Idealize.ShloMosaic Idealize.SL.Sem

/-- The frame of the reference of the dilated attention. -/
theorem frame_AttnRefIdeal : Cert.quiescent_AttnRefIdeal := fun m ρ _ =>
  θ_run_mono (Cert.AttnRefIdeal.Value.run (F := Ideal) m ρ) fun r h =>
    ⟨fun c => (h c).2.2, Idealize.ShloMosaic.sem_eq_zero_of_no_sems (by decide) r.2⟩

/-- The frame of the reference of the projection of group 0. -/
theorem frame_QkvRefAIdeal : Cert.quiescent_QkvRefAIdeal := fun m ρ _ =>
  θ_run_mono (Cert.QkvRefAIdeal.Value.run (F := Ideal) m ρ) fun r h =>
    ⟨fun c => (h c).2, Idealize.ShloMosaic.sem_eq_zero_of_no_sems (by decide) r.2⟩

/-- The frame of the reference of the projection of group 1. -/
theorem frame_QkvRefBIdeal : Cert.quiescent_QkvRefBIdeal := fun m ρ _ =>
  θ_run_mono (Cert.QkvRefBIdeal.Value.run (F := Ideal) m ρ) fun r h =>
    ⟨fun c => (h c).2, Idealize.ShloMosaic.sem_eq_zero_of_no_sems (by decide) r.2⟩

/-- The frame of the reference of the projection of group 2. -/
theorem frame_QkvRefCIdeal : Cert.quiescent_QkvRefCIdeal := fun m ρ _ =>
  θ_run_mono (Cert.QkvRefCIdeal.Value.run (F := Ideal) m ρ) fun r h =>
    ⟨fun c => (h c).2, Idealize.ShloMosaic.sem_eq_zero_of_no_sems (by decide) r.2⟩

end Cert.Layer
end
-- ==== Proof.Layer.AttnBlock.lean ====
module

public import proofs.«01_k».proof.Proof.Gen.AttnIdeal.Frame
public import Idealize.ShloMosaic.Lib.Pipeline.Value
public import Idealize.ShloMosaic.Lib.Pipeline.ValueKit
public import Idealize.ShloMosaic.Lib.WholeRead

/-! One grid point of the attention, as whole-array expressions: what the body computes for one block of 128 queries
and one pair of heads, from the queries, the 128 keys and values before the block, the block's own, and the two heads'
tables of distances. Every store of the body is one of these (`AttnStores`). -/

@[expose] public section

set_option maxRecDepth 65536

noncomputable section

namespace Cert.AttnIdeal.Layer

open Cert.AttnIdeal Cert.AttnIdeal.Gen Idealize.ShloMosaic Idealize.ShloMosaic.TcCoe Idealize.SL.Sem

variable {F : FTy → Type} [FloatOps F] [Named F]

/-- A window of 256 rows: the 128 before the block, then the block's. -/
def kwin (a b : Vec F S1x128x128 .bf16) : FVec F S256x128 .bf16 :=
  concatenate S256x128 0 [⟨S128x128, shapeCast S128x128 a shapeCasts_S1x128x128_S128x128⟩,
    ⟨S128x128, shapeCast S128x128 b shapeCasts_S1x128x128_S128x128⟩] concatenates_S128x128_S128x128_S256x128_d0

/-- The scores of the window's keys (rows) for the block's queries (columns), the distance table added; `keep` chooses
the head's half of the lanes. -/
def scores (keep : IVec S1x128 1) (q kp kc : Vec F S1x128x128 .bf16) (b : Vec F S1x1x256x128 .f32) : FVec F S256x128 .f32 :=
  addf (matmul dot_S256x128_S128x128_S256x128_1_1_0_0_n_n none (kwin kp kc)
      (select (broadcastTo S128x128 (shapeCast S1x128 keep shapeCasts_S1x128_S1x128) broadcasts_S1x128_S128x128)
        (shapeCast S128x128 q shapeCasts_S1x128x128_S128x128) (broadcast S128x128 (Scalar.ofBits .bf16 0x0000#16)))
      (constant S256x128 .f32 0x00000000#32))
    (shapeCast S256x128 b shapeCasts_S1x1x256x128_S256x128)

/-- Each query's greatest score. -/
def top (s : FVec F S256x128 .f32) : FVec F S1x128 .f32 :=
  shapeCast S1x128 (multiReduction .maximumf [0] S128 s 0xFF800000#32 reduces_S256x128_S128 (.inl rfl) rfl) shapeCasts_S128_S1x128

/-- The powers of two of the scores below the greatest. -/
def weights (s : FVec F S256x128 .f32) : FVec F S256x128 .f32 :=
  exp2 (subf s (broadcastTo S256x128 (top s) broadcasts_S1x128_S256x128))

/-- Their sum for each query. -/
def total (s : FVec F S256x128 .f32) : FVec F S1x128 .f32 :=
  shapeCast S1x128 (multiReduction .add [0] S128 (weights s) 0x00000000#32 reduces_S256x128_S128 (.inl rfl) rfl) shapeCasts_S128_S1x128

/-- The weighted sum of the window's values over the sum of the weights, lanes by queries. -/
def headOut (vp vc : Vec F S1x128x128 .bf16) (s : FVec F S256x128 .f32) : FVec F S128x128 .f32 :=
  mulf (matmul dot_S128x256_S256x128_S128x128_1_0_0_1_n_n none
      (transpose S128x256 [1, 0] (kwin vp vc) transposes_S256x128_p1_0_S128x256)
      (truncf .bf16 (weights s) bitsLt_bf16_f32) (constant S128x128 .f32 0x00000000#32))
    (broadcastTo S128x128 (divf (broadcast S1x128 (Scalar.ofBits .f32 0x3F800000#32)) (total s)) broadcasts_S1x128_S128x128)

/-- The logarithm of the sum of the weights, to base two, with the greatest score added back. -/
def headLse (s : FVec F S256x128 .f32) : FVec F S1x128 .f32 :=
  addf (top s) (mulf (log (total s)) (broadcast S1x128 (Scalar.ofBits .f32 0x3FB8AA3B#32)))

/-- The lanes of the pair's first head, and those of its second. -/
def half0 : IVec S1x128 1 := k0_pay60
def half1 : IVec S1x128 1 := xori k0_pay60 (constantI S1x128 1 1#1)

/-- The block's stored result for a pair of heads. -/
def pairOut (q kp kc vp vc : Vec F S1x128x128 .bf16) (b0 b1 : Vec F S1x1x256x128 .f32) : FVec F S1x128x128 .bf16 :=
  shapeCast S1x128x128 (truncf .bf16 (transpose S128x128 [1, 0]
    (select k0_pay61 (headOut vp vc (scores half0 q kp kc b0)) (headOut vp vc (scores half1 q kp kc b1)))
    transposes_S128x128_p1_0_S128x128) bitsLt_bf16_f32) shapeCasts_S128x128_S1x128x128

/-- A 128 by 128 part of the block of 1024 rows. -/
def sub {α : Type} (x : S1x1024x1024.Idx → α) (a b : ℕ) (ha : a < 8) (hb : b < 8) : S1x128x128.Idx → α :=
  fun j => x (ix3 0 ⟨128 * a + (j 1).val, by idx_bounds j; omega⟩ ⟨128 * b + (j 2).val, by idx_bounds j; omega⟩)

/-- A 128 by 128 part of the 128 rows before it. -/
def sub1 {α : Type} (x : S1x128x1024.Idx → α) (b : ℕ) (hb : b < 8) : S1x128x128.Idx → α :=
  fun j => x (ix3 0 ⟨(j 1).val, by idx_bounds j; omega⟩ ⟨128 * b + (j 2).val, by idx_bounds j; omega⟩)

/-- One head's distance table. -/
def bsub {α : Type} (T : S2x16x256x128.Idx → α) (k h : ℕ) (hk : k < 2) (hh : h < 16) : S1x1x256x128.Idx → α :=
  fun j => T (ix4 ⟨k, hk⟩ ⟨h, hh⟩ ⟨(j 2).val, by idx_bounds j; omega⟩ ⟨(j 3).val, by idx_bounds j; omega⟩)

/-- The rows before block `a`: in the block of 1024 rows, or for the first block the 128 rows handed over separately. -/
def before {α : Type} (x : S1x1024x1024.Idx → α) (xp : S1x128x1024.Idx → α) (a b : ℕ) (ha : a < 8) (hb : b < 8) : S1x128x128.Idx → α :=
  if a = 0 then sub1 xp b hb else sub x (a - 1) b (by omega) hb

/-- Which of a head's two tables a block uses: the one without the rows before, at the very first block. -/
def first (jb a : ℕ) : ℕ := if a = 0 then min jb 1 else 1

theorem first_lt (jb a : ℕ) : first jb a < 2 := by unfold first; split <;> omega

/-- The result of a grid point for block `a` and pair `b`. -/
def blockOut (jb : ℕ) (x0 : Vec F S1x1024x1024 .bf16) (x1 : Vec F S1x128x1024 .bf16) (x2 : Vec F S1x1024x1024 .bf16)
    (x3 : Vec F S1x128x1024 .bf16) (x4 : Vec F S1x1024x1024 .bf16) (T : Vec F S2x16x256x128 .f32) (a b : ℕ) (ha : a < 8) (hb : b < 8) :
    FVec F S1x128x128 .bf16 :=
  pairOut (sub x0 a b ha hb) (before x2 x1 a b ha hb) (sub x2 a b ha hb) (before x4 x3 a b ha hb) (sub x4 a b ha hb)
    (bsub T (first jb a) (2 * b) (first_lt _ _) (by omega)) (bsub T (first jb a) (2 * b + 1) (first_lt _ _) (by omega))

/-- The whole result of a grid point. -/
def pointOut (jb : ℕ) (x0 : Vec F S1x1024x1024 .bf16) (x1 : Vec F S1x128x1024 .bf16) (x2 : Vec F S1x1024x1024 .bf16)
    (x3 : Vec F S1x128x1024 .bf16) (x4 : Vec F S1x1024x1024 .bf16) (T : Vec F S2x16x256x128 .f32) : Vec F S1x1024x1024 .bf16 :=
  fun y => blockOut jb x0 x1 x2 x3 x4 T ((y 1).val / 128) ((y 2).val / 128) (by idx_bounds y; omega) (by idx_bounds y; omega)
    (ix3 0 ⟨(y 1).val % 128, by omega⟩ ⟨(y 2).val % 128, by omega⟩)

/-- The scores of head `2 b + d` (`d` the half) in block `a`. -/
def blockScores (jb : ℕ) (x0 : Vec F S1x1024x1024 .bf16) (x1 : Vec F S1x128x1024 .bf16) (x2 : Vec F S1x1024x1024 .bf16)
    (T : Vec F S2x16x256x128 .f32) (a h : ℕ) (ha : a < 8) (hh : h < 16) : FVec F S256x128 .f32 :=
  scores (if h % 2 = 0 then half0 else half1) (sub x0 a (h / 2) ha (by omega)) (before x2 x1 a (h / 2) ha (by omega))
    (sub x2 a (h / 2) ha (by omega)) (bsub T (first jb a) h (first_lt _ _) hh)

/-- Sixteen rows and 112 rows of zeros, rows and columns exchanged: what is stored of the logarithms. -/
def stackLse (f : (h : ℕ) → h < 16 → FVec F S1x128 .f32) : FVec F S1x128x128 .f32 :=
  k0_pay2 (f 0 (by decide)) (f 1 (by decide)) (f 2 (by decide)) (f 3 (by decide)) (f 4 (by decide)) (f 5 (by decide)) (f 6 (by decide)) (f 7 (by decide))
    (f 8 (by decide)) (f 9 (by decide)) (f 10 (by decide)) (f 11 (by decide)) (f 12 (by decide)) (f 13 (by decide)) (f 14 (by decide)) (f 15 (by decide))

/-- The whole second result of a grid point: the logarithms of the weights' sums. -/
def pointLse (jb : ℕ) (x0 : Vec F S1x1024x1024 .bf16) (x1 : Vec F S1x128x1024 .bf16) (x2 : Vec F S1x1024x1024 .bf16)
    (T : Vec F S2x16x256x128 .f32) : Vec F S1x1024x128 .f32 :=
  fun y => stackLse (fun h hh => headLse (blockScores jb x0 x1 x2 T ((y 1).val / 128) h (by idx_bounds y; omega) hh))
    (ix3 0 ⟨(y 1).val % 128, by omega⟩ ⟨(y 2).val, by idx_bounds y; omega⟩)

/-! ### A store of the body, against these -/

variable {arg2 : Memref sig .tc .vmem S1x1024x1024 .bf16} (harg2 : arg2.IsWhole) {arg3 : Memref sig .tc .vmem S1x128x1024 .bf16} (harg3 : arg3.IsWhole)
  {arg4 : Memref sig .tc .vmem S1x1024x1024 .bf16} (harg4 : arg4.IsWhole) {arg5 : Memref sig .tc .vmem S1x128x1024 .bf16} (harg5 : arg5.IsWhole)
  {arg6 : Memref sig .tc .vmem S1x1024x1024 .bf16} (harg6 : arg6.IsWhole) {arg9 : Memref sig .tc .vmem S2x16x256x128 .f32}
  (f9 : arg9.view.ty.Contents (Elt F)) (T : Vec F S2x16x256x128 .f32) (h9 : arg9.view.read (Elt F) f9 = T)

/-- A load of a 128 by 128 part, of a buffer of 1024 rows held at `x`. -/
theorem load_sub {arg : Memref sig .tc .vmem S1x1024x1024 .bf16} (harg : arg.IsWhole) (x : Vec F S1x1024x1024 .bf16) (a b : ℕ) (ha : a < 8) (hb : b < 8) (inb) :
    View.readAt (Elt F) arg.view (Rect.unit (s := S1x1024x1024) ![0, 128 * a, 128 * b] S1x128x128.size inb).toLoadRect (harg.unread x)
      = sub x a b ha hb := by
  funext j
  rw [harg.readAt_unread]
  unfold sub
  congr 1
  funext d
  idx_bounds j
  fin_cases d <;> apply Fin.ext <;> simp [LoadRect.idx, ix3] <;> omega

theorem load_sub1 {arg : Memref sig .tc .vmem S1x128x1024 .bf16} (harg : arg.IsWhole) (x : Vec F S1x128x1024 .bf16) (b : ℕ) (hb : b < 8) (inb) :
    View.readAt (Elt F) arg.view (Rect.unit (s := S1x128x1024) ![0, 0, 128 * b] S1x128x128.size inb).toLoadRect (harg.unread x)
      = sub1 x b hb := by
  funext j
  rw [harg.readAt_unread]
  unfold sub1
  congr 1
  funext d
  idx_bounds j
  fin_cases d <;> apply Fin.ext <;> simp [LoadRect.idx, ix3] <;> omega

include h9 in
theorem load_bsub (k h : ℕ) (hk : k < 2) (hh : h < 16) (off : Fin 4 → ℕ) (ho : off = ![k, h, 0, 0]) (inb) :
    View.readAt (Elt F) arg9.view (Rect.unit (s := S2x16x256x128) off S1x1x256x128.size inb).toLoadRect f9 = bsub T k h hk hh := by
  subst ho h9
  funext j
  unfold bsub
  refine congrArg (arg9.view.read (Elt F) f9) ?_
  funext d
  idx_bounds j
  fin_cases d <;> apply Fin.ext <;> simp [LoadRect.idx, ix4] <;> omega

end Cert.AttnIdeal.Layer
end
-- ==== Proof.Layer.AttnStores.lean ====
module

public import proofs.«01_k».proof.Proof.Layer.AttnBlock

/-! Every store of the attention's body, in both of its cases, is the block expression of `AttnBlock`. -/

@[expose] public section

set_option maxRecDepth 65536

noncomputable section

namespace Cert.AttnIdeal.Layer

open Cert.AttnIdeal Cert.AttnIdeal.Gen Idealize.ShloMosaic Idealize.ShloMosaic.TcCoe Idealize.SL.Sem

variable {F : FTy → Type} [FloatOps F] [Named F]

/-- The index the point's grid coordinate chooses the first block's table by. -/
theorem off_first (n : ℕ) (h : n < 4) : (Scalar.indexCast (Scalar.minsi (BitVec.ofNat 32 n) 1#32)).toNat = min n 1 := by
  interval_cases n <;> rfl

theorem off0 (i : grid0.Coords) : k0_off1 i = ![first (i 1).val 0, 0, 0, 0] :=
  congrArg (fun z => ![z, 0, 0, 0]) (off_first (i 1).val (i 1).isLt)
theorem off1 (i : grid0.Coords) : k0_off2 i = ![first (i 1).val 0, 1, 0, 0] :=
  congrArg (fun z => ![z, 1, 0, 0]) (off_first (i 1).val (i 1).isLt)
theorem off2 (i : grid0.Coords) : k0_off3 i = ![first (i 1).val 0, 2, 0, 0] :=
  congrArg (fun z => ![z, 2, 0, 0]) (off_first (i 1).val (i 1).isLt)
theorem off3 (i : grid0.Coords) : k0_off4 i = ![first (i 1).val 0, 3, 0, 0] :=
  congrArg (fun z => ![z, 3, 0, 0]) (off_first (i 1).val (i 1).isLt)
theorem off4 (i : grid0.Coords) : k0_off5 i = ![first (i 1).val 0, 4, 0, 0] :=
  congrArg (fun z => ![z, 4, 0, 0]) (off_first (i 1).val (i 1).isLt)
theorem off5 (i : grid0.Coords) : k0_off6 i = ![first (i 1).val 0, 5, 0, 0] :=
  congrArg (fun z => ![z, 5, 0, 0]) (off_first (i 1).val (i 1).isLt)
theorem off6 (i : grid0.Coords) : k0_off7 i = ![first (i 1).val 0, 6, 0, 0] :=
  congrArg (fun z => ![z, 6, 0, 0]) (off_first (i 1).val (i 1).isLt)
theorem off7 (i : grid0.Coords) : k0_off8 i = ![first (i 1).val 0, 7, 0, 0] :=
  congrArg (fun z => ![z, 7, 0, 0]) (off_first (i 1).val (i 1).isLt)
theorem off8 (i : grid0.Coords) : k0_off9 i = ![first (i 1).val 0, 8, 0, 0] :=
  congrArg (fun z => ![z, 8, 0, 0]) (off_first (i 1).val (i 1).isLt)
theorem off9 (i : grid0.Coords) : k0_off10 i = ![first (i 1).val 0, 9, 0, 0] :=
  congrArg (fun z => ![z, 9, 0, 0]) (off_first (i 1).val (i 1).isLt)
theorem off10 (i : grid0.Coords) : k0_off11 i = ![first (i 1).val 0, 10, 0, 0] :=
  congrArg (fun z => ![z, 10, 0, 0]) (off_first (i 1).val (i 1).isLt)
theorem off11 (i : grid0.Coords) : k0_off12 i = ![first (i 1).val 0, 11, 0, 0] :=
  congrArg (fun z => ![z, 11, 0, 0]) (off_first (i 1).val (i 1).isLt)
theorem off12 (i : grid0.Coords) : k0_off13 i = ![first (i 1).val 0, 12, 0, 0] :=
  congrArg (fun z => ![z, 12, 0, 0]) (off_first (i 1).val (i 1).isLt)
theorem off13 (i : grid0.Coords) : k0_off14 i = ![first (i 1).val 0, 13, 0, 0] :=
  congrArg (fun z => ![z, 13, 0, 0]) (off_first (i 1).val (i 1).isLt)
theorem off14 (i : grid0.Coords) : k0_off15 i = ![first (i 1).val 0, 14, 0, 0] :=
  congrArg (fun z => ![z, 14, 0, 0]) (off_first (i 1).val (i 1).isLt)
theorem off15 (i : grid0.Coords) : k0_off16 i = ![first (i 1).val 0, 15, 0, 0] :=
  congrArg (fun z => ![z, 15, 0, 0]) (off_first (i 1).val (i 1).isLt)

section
variable {arg2 : Memref sig .tc .vmem S1x1024x1024 .bf16} (harg2 : arg2.IsWhole) {arg3 : Memref sig .tc .vmem S1x128x1024 .bf16} (harg3 : arg3.IsWhole)
  {arg4 : Memref sig .tc .vmem S1x1024x1024 .bf16} (harg4 : arg4.IsWhole) {arg5 : Memref sig .tc .vmem S1x128x1024 .bf16} (harg5 : arg5.IsWhole)
  {arg6 : Memref sig .tc .vmem S1x1024x1024 .bf16} (harg6 : arg6.IsWhole) {arg9 : Memref sig .tc .vmem S2x16x256x128 .f32}
  (f9 : arg9.view.ty.Contents (Elt F)) (T : Vec F S2x16x256x128 .f32) (h9 : arg9.view.read (Elt F) f9 = T) (jb : ℕ)
  (x0 : Vec F S1x1024x1024 .bf16) (x1 : Vec F S1x128x1024 .bf16) (x2 : Vec F S1x1024x1024 .bf16) (x3 : Vec F S1x128x1024 .bf16) (x4 : Vec F S1x1024x1024 .bf16)

/-- A part of the block at literal rows and columns holds the point's result if it holds the block expression. -/
theorem at_part (a b : ℕ) (ha : a < 8) (hb : b < 8) (inb) (f : S1x128x128.Idx → F .bf16)
    (hf : f = blockOut jb x0 x1 x2 x3 x4 T a b ha hb) (x : S1x128x128.Idx) :
    f x = pointOut jb x0 x1 x2 x3 x4 T ((Rect.unit (s := S1x1024x1024) ![0, 128 * a, 128 * b] S1x128x128.size inb).emb x) := by
  subst hf
  idx_bounds x
  have e1 : (((Rect.unit (s := S1x1024x1024) ![0, 128 * a, 128 * b] S1x128x128.size inb).emb x) 1).val = 128 * a + (x 1).val := by
    simp [Rect.emb, Rect.unit]
  have e2 : (((Rect.unit (s := S1x1024x1024) ![0, 128 * a, 128 * b] S1x128x128.size inb).emb x) 2).val = 128 * b + (x 2).val := by
    simp [Rect.emb, Rect.unit]
  unfold pointOut
  have ea : (((Rect.unit (s := S1x1024x1024) ![0, 128 * a, 128 * b] S1x128x128.size inb).emb x) 1).val / 128 = a := by omega
  have eb : (((Rect.unit (s := S1x1024x1024) ![0, 128 * a, 128 * b] S1x128x128.size inb).emb x) 2).val / 128 = b := by omega
  simp only [ea, eb]
  congr 1
  funext d
  fin_cases d <;> apply Fin.ext <;> simp [ix3] <;> omega

include harg2 harg4 harg6 h9 in
/-- A store of block `a > 0`, pair `b`. -/
theorem store_later (a b : ℕ) (ha : a + 1 < 8) (hb : b < 8) (inb i0 ik iv ip iq ib0 ib1) (f : S1x128x128.Idx → F .bf16)
    (hf : f = pairOut
      (View.readAt (Elt F) arg2.view (Rect.unit (s := S1x1024x1024) ![0, 128 * (a + 1), 128 * b] S1x128x128.size i0).toLoadRect (harg2.unread x0))
      (View.readAt (Elt F) arg4.view (Rect.unit (s := S1x1024x1024) ![0, 128 * a, 128 * b] S1x128x128.size ik).toLoadRect (harg4.unread x2))
      (View.readAt (Elt F) arg4.view (Rect.unit (s := S1x1024x1024) ![0, 128 * (a + 1), 128 * b] S1x128x128.size iv).toLoadRect (harg4.unread x2))
      (View.readAt (Elt F) arg6.view (Rect.unit (s := S1x1024x1024) ![0, 128 * a, 128 * b] S1x128x128.size ip).toLoadRect (harg6.unread x4))
      (View.readAt (Elt F) arg6.view (Rect.unit (s := S1x1024x1024) ![0, 128 * (a + 1), 128 * b] S1x128x128.size iq).toLoadRect (harg6.unread x4))
      (View.readAt (Elt F) arg9.view (Rect.unit (s := S2x16x256x128) ![1, 2 * b, 0, 0] S1x1x256x128.size ib0).toLoadRect f9)
      (View.readAt (Elt F) arg9.view (Rect.unit (s := S2x16x256x128) ![1, 2 * b + 1, 0, 0] S1x1x256x128.size ib1).toLoadRect f9))
    (x : S1x128x128.Idx) :
    f x = pointOut jb x0 x1 x2 x3 x4 T ((Rect.unit (s := S1x1024x1024) ![0, 128 * (a + 1), 128 * b] S1x128x128.size inb).emb x) := by
  refine at_part T jb x0 x1 x2 x3 x4 (a + 1) b ha hb inb f ?_ x
  subst hf
  rw [load_sub harg2 x0 _ _ ha hb, load_sub harg4 x2 _ _ (by omega) hb, load_sub harg4 x2 _ _ ha hb,
    load_sub harg6 x4 _ _ (by omega) hb, load_sub harg6 x4 _ _ ha hb,
    load_bsub f9 T h9 1 (2 * b) (by decide) (by omega) _ rfl, load_bsub f9 T h9 1 (2 * b + 1) (by decide) (by omega) _ rfl]
  rfl

include harg2 harg3 harg4 harg5 harg6 h9 in
/-- A store of the first block, pair `b`. -/
theorem store_first (b : ℕ) (hb : b < 8) (o0 o1 : Fin 4 → ℕ) (e0 : o0 = ![first jb 0, 2 * b, 0, 0]) (e1 : o1 = ![first jb 0, 2 * b + 1, 0, 0])
    (inb i0 ik iv ip iq ib0 ib1) (f : S1x128x128.Idx → F .bf16)
    (hf : f = pairOut
      (View.readAt (Elt F) arg2.view (Rect.unit (s := S1x1024x1024) ![0, 0, 128 * b] S1x128x128.size i0).toLoadRect (harg2.unread x0))
      (View.readAt (Elt F) arg3.view (Rect.unit (s := S1x128x1024) ![0, 0, 128 * b] S1x128x128.size ik).toLoadRect (harg3.unread x1))
      (View.readAt (Elt F) arg4.view (Rect.unit (s := S1x1024x1024) ![0, 0, 128 * b] S1x128x128.size iv).toLoadRect (harg4.unread x2))
      (View.readAt (Elt F) arg5.view (Rect.unit (s := S1x128x1024) ![0, 0, 128 * b] S1x128x128.size ip).toLoadRect (harg5.unread x3))
      (View.readAt (Elt F) arg6.view (Rect.unit (s := S1x1024x1024) ![0, 0, 128 * b] S1x128x128.size iq).toLoadRect (harg6.unread x4))
      (View.readAt (Elt F) arg9.view (Rect.unit (s := S2x16x256x128) o0 S1x1x256x128.size ib0).toLoadRect f9)
      (View.readAt (Elt F) arg9.view (Rect.unit (s := S2x16x256x128) o1 S1x1x256x128.size ib1).toLoadRect f9))
    (x : S1x128x128.Idx) :
    f x = pointOut jb x0 x1 x2 x3 x4 T ((Rect.unit (s := S1x1024x1024) ![0, 0, 128 * b] S1x128x128.size inb).emb x) := by
  refine at_part T jb x0 x1 x2 x3 x4 0 b (by decide) hb inb f ?_ x
  subst hf
  rw [load_sub1 harg3 x1 _ hb, load_sub1 harg5 x3 _ hb,
    load_bsub f9 T h9 _ (2 * b) (first_lt _ _) (by omega) _ e0, load_bsub f9 T h9 _ (2 * b + 1) (first_lt _ _) (by omega) _ e1]
  exact congrArg₂ (fun q k => pairOut q _ k _ _ _ _) (load_sub harg2 x0 0 b (by decide) hb i0) (load_sub harg4 x2 0 b (by decide) hb iv) |>.trans
    (congrArg (fun v => pairOut _ _ _ _ v _ _) (load_sub harg6 x4 0 b (by decide) hb iq))

end
set_option maxHeartbeats 4000000 in
/-- The stores of the result in case B. -/
theorem stores_B (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S2x16x256x128 .f32) (harg9 : arg9.IsWhole) (hc0 : ¬cond0_0 i)
    (x0 : Vec F S1x1024x1024 .bf16) (x1 : Vec F S1x128x1024 .bf16) (x2 : Vec F S1x1024x1024 .bf16) (x3 : Vec F S1x128x1024 .bf16) (x4 : Vec F S1x1024x1024 .bf16) (xs0 : Vec F S2x16x256x128 .f32) :
    ∀ p ∈ (kernelRun0_B c i arg2 harg2 arg3 harg3 arg4 harg4 arg5 harg5 arg6 harg6 arg7 harg7 arg8 harg8 arg9 harg9 hc0 x0 x1 x2 x3 x4 xs0).1, ∀ x : p.1.shape.Idx, p.2 x = pointOut (i 1).val x0 x1 x2 x3 x4 xs0 (p.1.emb x) := by
  dsimp only [kernelRun0_B]
  refine List.forall_mem_cons.2 ⟨?_, ?_⟩
  · exact store_later harg2 harg4 harg6 (harg9.unread xs0) xs0 (harg9.read_unread xs0) (i 1).val x0 x1 x2 x3 x4 6 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 6 0 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 5 0 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 4 0 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 3 0 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 2 0 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 1 0 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 7 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 6 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 5 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 4 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 3 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 2 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 1 (by decide) (by decide) (by decide) (by decide) (by decide) (by decide) (by decide) (by decide) (by decide) (by decide) _ rfl
  refine List.forall_mem_cons.2 ⟨?_, ?_⟩
  · exact store_later harg2 harg4 harg6 (harg9.unread xs0) xs0 (harg9.read_unread xs0) (i 1).val x0 x1 x2 x3 x4 0 0 (by decide) (by decide) (by decide) (by decide) (by decide) (by decide) (by decide) (by decide) (by decide) (by decide) _ rfl
  refine List.forall_mem_cons.2 ⟨?_, ?_⟩
  · exact store_first harg2 harg3 harg4 harg5 harg6 (harg9.unread xs0) xs0 (harg9.read_unread xs0) (i 1).val x0 x1 x2 x3 x4 7 (by decide) _ _ (off14 i) (off15 i) (by decide) (by decide) (by decide) (by decide) (by decide) (by decide) (k0_off15_inb i) (k0_off16_inb i) _ rfl
  refine List.forall_mem_cons.2 ⟨?_, ?_⟩
  · exact store_first harg2 harg3 harg4 harg5 harg6 (harg9.unread xs0) xs0 (harg9.read_unread xs0) (i 1).val x0 x1 x2 x3 x4 6 (by decide) _ _ (off12 i) (off13 i) (by decide) (by decide) (by decide) (by decide) (by decide) (by decide) (k0_off13_inb i) (k0_off14_inb i) _ rfl
  refine List.forall_mem_cons.2 ⟨?_, ?_⟩
  · exact store_first harg2 harg3 harg4 harg5 harg6 (harg9.unread xs0) xs0 (harg9.read_unread xs0) (i 1).val x0 x1 x2 x3 x4 5 (by decide) _ _ (off10 i) (off11 i) (by decide) (by decide) (by decide) (by decide) (by decide) (by decide) (k0_off11_inb i) (k0_off12_inb i) _ rfl
  refine List.forall_mem_cons.2 ⟨?_, ?_⟩
  · exact store_first harg2 harg3 harg4 harg5 harg6 (harg9.unread xs0) xs0 (harg9.read_unread xs0) (i 1).val x0 x1 x2 x3 x4 4 (by decide) _ _ (off8 i) (off9 i) (by decide) (by decide) (by decide) (by decide) (by decide) (by decide) (k0_off9_inb i) (k0_off10_inb i) _ rfl
  refine List.forall_mem_cons.2 ⟨?_, ?_⟩
  · exact store_first harg2 harg3 harg4 harg5 harg6 (harg9.unread xs0) xs0 (harg9.read_unread xs0) (i 1).val x0 x1 x2 x3 x4 3 (by decide) _ _ (off6 i) (off7 i) (by decide) (by decide) (by decide) (by decide) (by decide) (by decide) (k0_off7_inb i) (k0_off8_inb i) _ rfl
  refine List.forall_mem_cons.2 ⟨?_, ?_⟩
  · exact store_first harg2 harg3 harg4 harg5 harg6 (harg9.unread xs0) xs0 (harg9.read_unread xs0) (i 1).val x0 x1 x2 x3 x4 2 (by decide) _ _ (off4 i) (off5 i) (by decide) (by decide) (by decide) (by decide) (by decide) (by decide) (k0_off5_inb i) (k0_off6_inb i) _ rfl
  refine List.forall_mem_cons.2 ⟨?_, ?_⟩
  · exact store_first harg2 harg3 harg4 harg5 harg6 (harg9.unread xs0) xs0 (harg9.read_unread xs0) (i 1).val x0 x1 x2 x3 x4 1 (by decide) _ _ (off2 i) (off3 i) (by decide) (by decide) (by decide) (by decide) (by decide) (by decide) (k0_off3_inb i) (k0_off4_inb i) _ rfl
  refine List.forall_mem_cons.2 ⟨?_, ?_⟩
  · exact store_first harg2 harg3 harg4 harg5 harg6 (harg9.unread xs0) xs0 (harg9.read_unread xs0) (i 1).val x0 x1 x2 x3 x4 0 (by decide) _ _ (off0 i) (off1 i) (by decide) (by decide) (by decide) (by decide) (by decide) (by decide) (k0_off1_inb i) (k0_off2_inb i) _ rfl
  exact fun p hp => absurd hp List.not_mem_nil

set_option maxHeartbeats 4000000 in
/-- The stores of the result in case A. -/
theorem stores_A (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S2x16x256x128 .f32) (harg9 : arg9.IsWhole) (hc0 : cond0_0 i)
    (x0 : Vec F S1x1024x1024 .bf16) (x1 : Vec F S1x128x1024 .bf16) (x2 : Vec F S1x1024x1024 .bf16) (x3 : Vec F S1x128x1024 .bf16) (x4 : Vec F S1x1024x1024 .bf16) (T : Vec F S2x16x256x128 .f32) (h9 : arg9.view.read (Elt F) (arg9.view.writes (Elt F) arg9.view.junk kernelRun0_A.sl.HS0_32) = T) :
    ∀ p ∈ (kernelRun0_A c i arg2 harg2 arg3 harg3 arg4 harg4 arg5 harg5 arg6 harg6 arg7 harg7 arg8 harg8 arg9 harg9 hc0 x0 x1 x2 x3 x4).1, ∀ x : p.1.shape.Idx, p.2 x = pointOut (i 1).val x0 x1 x2 x3 x4 T (p.1.emb x) := by
  dsimp only [kernelRun0_A]
  refine List.forall_mem_cons.2 ⟨?_, ?_⟩
  · exact store_later harg2 harg4 harg6 (arg9.view.writes (Elt F) arg9.view.junk kernelRun0_A.sl.HS0_32) T h9 (i 1).val x0 x1 x2 x3 x4 6 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 6 0 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 5 0 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 4 0 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 3 0 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 2 0 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 1 0 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 7 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 6 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 5 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 4 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 3 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 2 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 1 (by decide) (by decide) (by decide) (by decide) (by decide) (by decide) (by decide) (by decide) (by decide) (by decide) _ rfl
  refine List.forall_mem_cons.2 ⟨?_, ?_⟩
  · exact store_later harg2 harg4 harg6 (arg9.view.writes (Elt F) arg9.view.junk kernelRun0_A.sl.HS0_32) T h9 (i 1).val x0 x1 x2 x3 x4 0 0 (by decide) (by decide) (by decide) (by decide) (by decide) (by decide) (by decide) (by decide) (by decide) (by decide) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 7 (by decide) _ _ (off14 i) (off15 i) (by decide) (by decide) (by decide) (by decide) (by decide) (by decide) (k0_off15_inb i) (k0_off16_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 6 (by decide) _ _ (off12 i) (off13 i) (by decide) (by decide) (by decide) (by decide) (by decide) (by decide) (k0_off13_inb i) (k0_off14_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 5 (by decide) _ _ (off10 i) (off11 i) (by decide) (by decide) (by decide) (by decide) (by decide) (by decide) (k0_off11_inb i) (k0_off12_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 4 (by decide) _ _ (off8 i) (off9 i) (by decide) (by decide) (by decide) (by decide) (by decide) (by decide) (k0_off9_inb i) (k0_off10_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 3 (by decide) _ _ (off6 i) (off7 i) (by decide) (by decide) (by decide) (by decide) (by decide) (by decide) (k0_off7_inb i) (k0_off8_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 2 (by decide) _ _ (off4 i) (off5 i) (by decide) (by decide) (by decide) (by decide) (by decide) (by decide) (k0_off5_inb i) (k0_off6_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 1 (by decide) _ _ (off2 i) (off3 i) (by decide) (by decide) (by decide) (by decide) (by decide) (by decide) (k0_off3_inb i) (k0_off4_inb i) _ rfl
  refine List.forall_mem_cons.2 ⟨?_, ?_⟩
  · exact store_first harg2 harg3 harg4 harg5 harg6 (arg9.view.writes (Elt F) arg9.view.junk kernelRun0_A.sl.HS0_32) T h9 (i 1).val x0 x1 x2 x3 x4 0 (by decide) _ _ (off0 i) (off1 i) (by decide) (by decide) (by decide) (by decide) (by decide) (by decide) (k0_off1_inb i) (k0_off2_inb i) _ rfl
  exact fun p hp => absurd hp List.not_mem_nil

end Cert.AttnIdeal.Layer
end
-- ==== Proof.Layer.AttnLses.lean ====
module

public import proofs.«01_k».proof.Proof.Layer.AttnStores

/-! The stores of the attention's second result, the logarithms of the weights' sums: each is the block expression of
`AttnBlock`. -/

@[expose] public section

set_option maxRecDepth 65536

noncomputable section

namespace Cert.AttnIdeal.Layer

open Cert.AttnIdeal Cert.AttnIdeal.Gen Idealize.ShloMosaic Idealize.ShloMosaic.TcCoe Idealize.SL.Sem

variable {F : FTy → Type} [FloatOps F] [Named F]

theorem inb_sub (a b : ℕ) (ha : a < 8) (hb : b < 8) (d : Fin 3) :
    (![0, 128 * a, 128 * b] : Fin 3 → ℕ) d + S1x128x128.size d ≤ S1x1024x1024.size d := by
  fin_cases d <;> simp <;> omega

theorem inb_sub1 (b : ℕ) (hb : b < 8) (d : Fin 3) :
    (![0, 0, 128 * b] : Fin 3 → ℕ) d + S1x128x128.size d ≤ S1x128x1024.size d := by
  fin_cases d <;> simp <;> omega

theorem inb_bsub (k h : ℕ) (hk : k < 2) (hh : h < 16) (off : Fin 4 → ℕ) (ho : off = ![k, h, 0, 0]) (d : Fin 4) :
    off d + S1x1x256x128.size d ≤ S2x16x256x128.size d := by
  subst ho
  fin_cases d <;> simp <;> omega

section
variable {arg2 : Memref sig .tc .vmem S1x1024x1024 .bf16} (harg2 : arg2.IsWhole) {arg3 : Memref sig .tc .vmem S1x128x1024 .bf16} (harg3 : arg3.IsWhole)
  {arg4 : Memref sig .tc .vmem S1x1024x1024 .bf16} (harg4 : arg4.IsWhole) {arg9 : Memref sig .tc .vmem S2x16x256x128 .f32}
  (f9 : arg9.view.ty.Contents (Elt F)) (T : Vec F S2x16x256x128 .f32) (h9 : arg9.view.read (Elt F) f9 = T) (jb : ℕ)
  (x0 : Vec F S1x1024x1024 .bf16) (x1 : Vec F S1x128x1024 .bf16) (x2 : Vec F S1x1024x1024 .bf16)

/-- Rows of the second result hold the point's result if they hold the block expression. -/
theorem at_rows (a : ℕ) (ha : a < 8) (inb) (f : S1x128x128.Idx → F .f32)
    (hf : f = stackLse (fun h hh => headLse (blockScores jb x0 x1 x2 T a h ha hh))) (x : S1x128x128.Idx) :
    f x = pointLse jb x0 x1 x2 T ((Rect.unit (s := S1x1024x128) ![0, 128 * a, 0] S1x128x128.size inb).emb x) := by
  subst hf
  idx_bounds x
  have e1 : (((Rect.unit (s := S1x1024x128) ![0, 128 * a, 0] S1x128x128.size inb).emb x) 1).val = 128 * a + (x 1).val := by
    simp [Rect.emb, Rect.unit]
  have e2 : (((Rect.unit (s := S1x1024x128) ![0, 128 * a, 0] S1x128x128.size inb).emb x) 2).val = (x 2).val := by
    simp [Rect.emb, Rect.unit]
  have key : ∀ (a' : ℕ) (h' : a' < 8) (j : S1x128x128.Idx), a' = a → j = x →
      stackLse (fun h hh => headLse (blockScores jb x0 x1 x2 T a h ha hh)) x = stackLse (fun h hh => headLse (blockScores jb x0 x1 x2 T a' h h' hh)) j := by
    rintro a' h' j rfl rfl; rfl
  unfold pointLse
  refine key _ (by omega) _ (by omega) ?_
  funext d
  fin_cases d <;> apply Fin.ext <;> simp [ix3] <;> omega

include harg2 harg4 h9 in
/-- A store of block `a > 0`. -/
theorem lse_later (a : ℕ) (ha : a + 1 < 8) (inb) (f : S1x128x128.Idx → F .f32)
    (hf : f = stackLse (fun h hh => headLse (scores (if h % 2 = 0 then half0 else half1)
      (View.readAt (Elt F) arg2.view (Rect.unit (s := S1x1024x1024) ![0, 128 * (a + 1), 128 * (h / 2)] S1x128x128.size (inb_sub _ _ ha (by omega))).toLoadRect (harg2.unread x0))
      (View.readAt (Elt F) arg4.view (Rect.unit (s := S1x1024x1024) ![0, 128 * a, 128 * (h / 2)] S1x128x128.size (inb_sub _ _ (by omega) (by omega))).toLoadRect (harg4.unread x2))
      (View.readAt (Elt F) arg4.view (Rect.unit (s := S1x1024x1024) ![0, 128 * (a + 1), 128 * (h / 2)] S1x128x128.size (inb_sub _ _ ha (by omega))).toLoadRect (harg4.unread x2))
      (View.readAt (Elt F) arg9.view (Rect.unit (s := S2x16x256x128) ![1, h, 0, 0] S1x1x256x128.size (inb_bsub 1 h (by decide) hh _ rfl)).toLoadRect f9))))
    (x : S1x128x128.Idx) :
    f x = pointLse jb x0 x1 x2 T ((Rect.unit (s := S1x1024x128) ![0, 128 * (a + 1), 0] S1x128x128.size inb).emb x) := by
  refine at_rows T jb x0 x1 x2 (a + 1) ha inb f (hf.trans (congrArg stackLse (funext fun h => funext fun hh => ?_))) x
  rw [load_sub harg2 x0 _ _ ha (by omega), load_sub harg4 x2 _ _ (by omega) (by omega), load_sub harg4 x2 _ _ ha (by omega),
    load_bsub f9 T h9 1 h (by decide) hh _ rfl]
  rfl

include harg2 harg3 harg4 h9 in
/-- A store of the first block. -/
theorem lse_first (o : Fin 16 → Fin 4 → ℕ) (ho : ∀ h, o h = ![first jb 0, h.val, 0, 0]) (inb) (f : S1x128x128.Idx → F .f32)
    (hf : f = stackLse (fun h hh => headLse (scores (if h % 2 = 0 then half0 else half1)
      (View.readAt (Elt F) arg2.view (Rect.unit (s := S1x1024x1024) ![0, 128 * 0, 128 * (h / 2)] S1x128x128.size (inb_sub _ _ (by omega) (by omega))).toLoadRect (harg2.unread x0))
      (View.readAt (Elt F) arg3.view (Rect.unit (s := S1x128x1024) ![0, 0, 128 * (h / 2)] S1x128x128.size (inb_sub1 _ (by omega))).toLoadRect (harg3.unread x1))
      (View.readAt (Elt F) arg4.view (Rect.unit (s := S1x1024x1024) ![0, 128 * 0, 128 * (h / 2)] S1x128x128.size (inb_sub _ _ (by omega) (by omega))).toLoadRect (harg4.unread x2))
      (View.readAt (Elt F) arg9.view (Rect.unit (s := S2x16x256x128) (o ⟨h, hh⟩) S1x1x256x128.size (inb_bsub _ h (first_lt jb 0) hh _ (ho ⟨h, hh⟩))).toLoadRect f9))))
    (x : S1x128x128.Idx) :
    f x = pointLse jb x0 x1 x2 T ((Rect.unit (s := S1x1024x128) ![0, 0, 0] S1x128x128.size inb).emb x) := by
  refine at_rows T jb x0 x1 x2 0 (by decide) inb f (hf.trans (congrArg stackLse (funext fun h => funext fun hh => ?_))) x
  rw [load_sub harg2 x0 _ _ (by decide) (by omega), load_sub1 harg3 x1 _ (by omega), load_sub harg4 x2 _ _ (by decide) (by omega),
    load_bsub f9 T h9 _ h (first_lt jb 0) hh _ (ho ⟨h, hh⟩)]
  rfl

end

/-- The sixteen heads' table offsets at the first block. -/
def offs (i : grid0.Coords) : Fin 16 → Fin 4 → ℕ :=
  ![k0_off1 i, k0_off2 i, k0_off3 i, k0_off4 i, k0_off5 i, k0_off6 i, k0_off7 i, k0_off8 i, k0_off9 i, k0_off10 i, k0_off11 i,
    k0_off12 i, k0_off13 i, k0_off14 i, k0_off15 i, k0_off16 i]

theorem offs_eq (i : grid0.Coords) (h : Fin 16) : offs i h = ![first (i 1).val 0, h.val, 0, 0] := by
  fin_cases h
  · exact off0 i
  · exact off1 i
  · exact off2 i
  · exact off3 i
  · exact off4 i
  · exact off5 i
  · exact off6 i
  · exact off7 i
  · exact off8 i
  · exact off9 i
  · exact off10 i
  · exact off11 i
  · exact off12 i
  · exact off13 i
  · exact off14 i
  · exact off15 i

set_option maxHeartbeats 4000000 in
/-- The stores of the logarithms in case B. -/
theorem lses_B (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S2x16x256x128 .f32) (harg9 : arg9.IsWhole) (hc0 : ¬cond0_0 i)
    (x0 : Vec F S1x1024x1024 .bf16) (x1 : Vec F S1x128x1024 .bf16) (x2 : Vec F S1x1024x1024 .bf16) (x3 : Vec F S1x128x1024 .bf16) (x4 : Vec F S1x1024x1024 .bf16) (xs0 : Vec F S2x16x256x128 .f32) :
    ∀ p ∈ (kernelRun0_B c i arg2 harg2 arg3 harg3 arg4 harg4 arg5 harg5 arg6 harg6 arg7 harg7 arg8 harg8 arg9 harg9 hc0 x0 x1 x2 x3 x4 xs0).2.1, ∀ x : p.1.shape.Idx, p.2 x = pointLse (i 1).val x0 x1 x2 xs0 (p.1.emb x) := by
  dsimp only [kernelRun0_B]
  refine List.forall_mem_cons.2 ⟨?_, ?_⟩
  · exact lse_later harg2 harg4 (harg9.unread xs0) xs0 (harg9.read_unread xs0) (i 1).val x0 x1 x2 6 (by decide) (by decide) _ rfl
  refine List.forall_mem_cons.2 ⟨?_, ?_⟩
  · exact lse_later harg2 harg4 (harg9.unread xs0) xs0 (harg9.read_unread xs0) (i 1).val x0 x1 x2 5 (by decide) (by decide) _ rfl
  refine List.forall_mem_cons.2 ⟨?_, ?_⟩
  · exact lse_later harg2 harg4 (harg9.unread xs0) xs0 (harg9.read_unread xs0) (i 1).val x0 x1 x2 4 (by decide) (by decide) _ rfl
  refine List.forall_mem_cons.2 ⟨?_, ?_⟩
  · exact lse_later harg2 harg4 (harg9.unread xs0) xs0 (harg9.read_unread xs0) (i 1).val x0 x1 x2 3 (by decide) (by decide) _ rfl
  refine List.forall_mem_cons.2 ⟨?_, ?_⟩
  · exact lse_later harg2 harg4 (harg9.unread xs0) xs0 (harg9.read_unread xs0) (i 1).val x0 x1 x2 2 (by decide) (by decide) _ rfl
  refine List.forall_mem_cons.2 ⟨?_, ?_⟩
  · exact lse_later harg2 harg4 (harg9.unread xs0) xs0 (harg9.read_unread xs0) (i 1).val x0 x1 x2 1 (by decide) (by decide) _ rfl
  refine List.forall_mem_cons.2 ⟨?_, ?_⟩
  · exact lse_later harg2 harg4 (harg9.unread xs0) xs0 (harg9.read_unread xs0) (i 1).val x0 x1 x2 0 (by decide) (by decide) _ rfl
  refine List.forall_mem_cons.2 ⟨?_, ?_⟩
  · exact lse_first harg2 harg3 harg4 (harg9.unread xs0) xs0 (harg9.read_unread xs0) (i 1).val x0 x1 x2 (offs i) (offs_eq i) (by decide) _ rfl
  exact fun p hp => absurd hp List.not_mem_nil

set_option maxHeartbeats 4000000 in
/-- The stores of the logarithms in case A. -/
theorem lses_A (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S2x16x256x128 .f32) (harg9 : arg9.IsWhole) (hc0 : cond0_0 i)
    (x0 : Vec F S1x1024x1024 .bf16) (x1 : Vec F S1x128x1024 .bf16) (x2 : Vec F S1x1024x1024 .bf16) (x3 : Vec F S1x128x1024 .bf16) (x4 : Vec F S1x1024x1024 .bf16) (T : Vec F S2x16x256x128 .f32) (h9 : arg9.view.read (Elt F) (arg9.view.writes (Elt F) arg9.view.junk kernelRun0_A.sl.HS0_32) = T) :
    ∀ p ∈ (kernelRun0_A c i arg2 harg2 arg3 harg3 arg4 harg4 arg5 harg5 arg6 harg6 arg7 harg7 arg8 harg8 arg9 harg9 hc0 x0 x1 x2 x3 x4).2.1, ∀ x : p.1.shape.Idx, p.2 x = pointLse (i 1).val x0 x1 x2 T (p.1.emb x) := by
  dsimp only [kernelRun0_A]
  refine List.forall_mem_cons.2 ⟨?_, ?_⟩
  · exact lse_later harg2 harg4 (arg9.view.writes (Elt F) arg9.view.junk kernelRun0_A.sl.HS0_32) T h9 (i 1).val x0 x1 x2 6 (by decide) (by decide) _ rfl
  refine List.forall_mem_cons.2 ⟨?_, ?_⟩
  · exact lse_later harg2 harg4 (arg9.view.writes (Elt F) arg9.view.junk kernelRun0_A.sl.HS0_32) T h9 (i 1).val x0 x1 x2 5 (by decide) (by decide) _ rfl
  refine List.forall_mem_cons.2 ⟨?_, ?_⟩
  · exact lse_later harg2 harg4 (arg9.view.writes (Elt F) arg9.view.junk kernelRun0_A.sl.HS0_32) T h9 (i 1).val x0 x1 x2 4 (by decide) (by decide) _ rfl
  refine List.forall_mem_cons.2 ⟨?_, ?_⟩
  · exact lse_later harg2 harg4 (arg9.view.writes (Elt F) arg9.view.junk kernelRun0_A.sl.HS0_32) T h9 (i 1).val x0 x1 x2 3 (by decide) (by decide) _ rfl
  refine List.forall_mem_cons.2 ⟨?_, ?_⟩
  · exact lse_later harg2 harg4 (arg9.view.writes (Elt F) arg9.view.junk kernelRun0_A.sl.HS0_32) T h9 (i 1).val x0 x1 x2 2 (by decide) (by decide) _ rfl
  refine List.forall_mem_cons.2 ⟨?_, ?_⟩
  · exact lse_later harg2 harg4 (arg9.view.writes (Elt F) arg9.view.junk kernelRun0_A.sl.HS0_32) T h9 (i 1).val x0 x1 x2 1 (by decide) (by decide) _ rfl
  refine List.forall_mem_cons.2 ⟨?_, ?_⟩
  · exact lse_later harg2 harg4 (arg9.view.writes (Elt F) arg9.view.junk kernelRun0_A.sl.HS0_32) T h9 (i 1).val x0 x1 x2 0 (by decide) (by decide) _ rfl
  refine List.forall_mem_cons.2 ⟨?_, ?_⟩
  · exact lse_first harg2 harg3 harg4 (arg9.view.writes (Elt F) arg9.view.junk kernelRun0_A.sl.HS0_32) T h9 (i 1).val x0 x1 x2 (offs i) (offs_eq i) (by decide) _ rfl
  exact fun p hp => absurd hp List.not_mem_nil

end Cert.AttnIdeal.Layer
end
-- ==== Proof.Layer.AttnBias.lean ====
module

public import proofs.«01_k».proof.Proof.Layer.AttnBlock
public import proofs.«01_k».proof.AttnRefIdeal

/-! The attention's tables of distances, and their entries on the extended reals. -/

@[expose] public section

set_option maxRecDepth 65536

noncomputable section

namespace Cert.AttnIdeal.Layer

open Cert.AttnIdeal Cert.AttnIdeal.Gen Idealize.ShloMosaic Idealize.ShloMosaic.TcCoe Idealize.SL.Sem

section
variable {F : FTy → Type} [FloatOps F] [Named F]

/-- The penalty at each key (row) and query (column) of a window: minus the slope times the distance in tokens, and the
mask outside the window. -/
def bias (w : BitVec 32) : FVec F S256x128 .f32 :=
  select k0_pay4 (subf (broadcast S256x128 (Scalar.ofBits .f32 0x00000000#32))
    (mulf (broadcast S256x128 (Scalar.ofBits .f32 w)) (k0_pay5 (F := F)))) (broadcast S256x128 (Named.named κ "mask" 0xF149F2CA#32))

/-- The same with the rows before the block masked. -/
def bias0 (w : BitVec 32) : FVec F S256x128 .f32 :=
  select (cmpi .sge (iota .tc S256x128 32 [0] iota_S256x128_d0_w32) (broadcast S256x128 128#32)) (bias w)
    (broadcast S256x128 (Named.named κ "mask" 0xF149F2CA#32))

/-- A head's table as stored: the second kind masks nothing before the block. -/
def tab (k : ℕ) (w : BitVec 32) : Vec F S1x1x256x128 .f32 :=
  shapeCast S1x1x256x128 (if k = 0 then bias0 w else bias w) shapeCasts_S256x128_S1x1x256x128

/-- All the tables. -/
def tables : Vec F S2x16x256x128 .f32 := fun y =>
  tab (y 0).val (Cert.AttnRefIdeal.lit0 (y 1)) (ix4 0 0 ⟨(y 2).val, by idx_bounds y; omega⟩ ⟨(y 3).val, by idx_bounds y; omega⟩)

end

/-- The difference of two small words is the difference of the numbers. -/
theorem sub_toInt (x y : ℕ) (hx : x < 8192) (hy : y < 8192) :
    (IntOp.subi (BitVec.ofNat 32 x) (BitVec.ofNat 32 y)).toInt = (x : ℤ) - y := by
  show (BitVec.ofNat 32 x - BitVec.ofNat 32 y).toInt = _
  have ex : (BitVec.ofNat 32 x).toInt = x := by
    rw [BitVec.toInt_eq_toNat_of_lt (by rw [BitVec.toNat_ofNat]; omega), BitVec.toNat_ofNat, Nat.mod_eq_of_lt (by omega)]
  have ey : (BitVec.ofNat 32 y).toInt = y := by
    rw [BitVec.toInt_eq_toNat_of_lt (by rw [BitVec.toNat_ofNat]; omega), BitVec.toNat_ofNat, Nat.mod_eq_of_lt (by omega)]
  rw [BitVec.toInt_sub, ex, ey]
  simp only [Int.bmod]
  split_ifs <;> omega

/-- The window's condition on the words. -/
theorem in_window (x y : ℕ) (hx : x < 8192) (hy : y < 8192) :
    IntOp.andi (IntOp.cmpi CmpIPredicate.sge (IntOp.subi (BitVec.ofNat 32 x) (BitVec.ofNat 32 y)) 0#32)
      (IntOp.cmpi CmpIPredicate.sle (IntOp.subi (BitVec.ofNat 32 x) (BitVec.ofNat 32 y)) 128#32)
      = if y ≤ x ∧ x ≤ y + 128 then 1#1 else 0#1 := by
  have e := sub_toInt x y hx hy
  generalize IntOp.subi (BitVec.ofNat 32 x) (BitVec.ofNat 32 y) = d at e
  show BitVec.ofBool ((0#32).sle d) &&& BitVec.ofBool (d.sle 128#32) = _
  have e0 : (0#32).sle d = decide (y ≤ x) := by
    rw [BitVec.sle_eq_decide, e]
    exact decide_eq_decide.2 (by have : (0#32 : BitVec 32).toInt = 0 := rfl; omega)
  have e1 : d.sle 128#32 = decide (x ≤ y + 128) := by
    rw [BitVec.sle_eq_decide, e]
    exact decide_eq_decide.2 (by have : (128#32 : BitVec 32).toInt = 128 := rfl; omega)
  rw [e0, e1]
  by_cases h0 : y ≤ x <;> by_cases h1 : x ≤ y + 128 <;> simp [h0, h1]

/-- The distance in tokens, as an extended real. -/
def far (x y : ℕ) : EReal := (((((x : ℤ) - y) * 4 : ℤ) : ℝ) : EReal)

theorem dist_at (x y : ℕ) (hx : x < 8192) (hy : y < 8192) :
    (FloatOps.sitofp FTy.f32 (IntOp.muli (IntOp.subi (BitVec.ofNat 32 x) (BitVec.ofNat 32 y)) 4#32) : Ideal .f32) = far x y := by
  have e := sub_toInt x y hx hy
  generalize IntOp.subi (BitVec.ofNat 32 x) (BitVec.ofNat 32 y) = d at e
  have e4 : (IntOp.muli d 4#32).toInt = ((x : ℤ) - y) * 4 := by
    show (d * 4#32).toInt = _
    rw [BitVec.toInt_mul, e]
    have : (4#32 : BitVec 32).toInt = 4 := rfl
    rw [this]
    simp only [Int.bmod]
    split_ifs <;> omega
  show (((IntOp.muli d 4#32).toInt : ℝ) : EReal) = _
  rw [e4]
  rfl

theorem mask_at : Named.named (F := Ideal) κ "mask" (φ := .f32) 0xF149F2CA#32 = (⊥ : EReal) :=
  IdealRules.named_const.ideal_named_scalar κ "mask" (φ := .f32) 0xF149F2CA#32 ⊥ rfl

/-- A table's entry on the extended reals. -/
theorem bias_at (w : BitVec 32) (i : S256x128.Idx) : bias (F := Ideal) w i
    = if (i 0).val ≤ (i 1).val + 128 ∧ (i 1).val ≤ (i 0).val then (0 - Ideal.ofBits .f32 w * far ((i 1).val + 128) (i 0).val : EReal) else (⊥ : EReal) := by
  unfold bias
  pointwise [k0_pay4, k0_pay5, k0_pay3]
  idx_bounds i
  have e : IntOp.addi (BitVec.ofNat 32 (i 1).val) 128#32 = BitVec.ofNat 32 ((i 1).val + 128) := (BitVec.ofNat_add _ _).symm
  rw [e, in_window _ _ (by omega) (by omega), dist_at _ _ (by omega) (by omega), mask_at]
  by_cases h : (i 0).val ≤ (i 1).val + 128 ∧ (i 1).val ≤ (i 0).val
  · rw [if_pos h, if_pos ⟨h.1, by omega⟩]
    rfl
  · rw [if_neg h, if_neg (fun h' => h ⟨h'.1, by omega⟩)]
    rfl

theorem bias0_at (w : BitVec 32) (i : S256x128.Idx) : bias0 (F := Ideal) w i = if (i 0).val < 128 then (⊥ : EReal) else bias (F := Ideal) w i := by
  unfold bias0
  pointwise
  have key : ∀ n : Fin 256, IntOp.cmpi CmpIPredicate.sge (BitVec.ofNat 32 n.val) 128#32 = if n.val < 128 then 0#1 else 1#1 := by decide +kernel
  have e := key (i 0)
  rw [e, mask_at]
  split <;> rfl

theorem tab_at (k : ℕ) (w : BitVec 32) (i : S1x1x256x128.Idx) :
    tab (F := Ideal) k w i = (if k = 0 then bias0 (F := Ideal) w else bias (F := Ideal) w) (ix2 (i 2) (i 3)) := by
  unfold tab
  pointwise

/-- The slopes are real numbers. -/
theorem slope_real (h : Fin 16) : ∃ c : ℝ, Ideal.ofBits .f32 (Cert.AttnRefIdeal.lit0 h) = (c : EReal) := by
  have key : ∀ w : BitVec 32, (w.extractLsb' 23 8).toNat ≠ 255 → ∃ c : ℝ, Ideal.ofBits .f32 w = (c : EReal) := by
    intro w hw
    simp only [Ideal.ofBits, Ideal.ieee]
    rw [if_neg (by simpa using hw)]
    split
    · exact ⟨_, rfl⟩
    · exact ⟨_, rfl⟩
  apply key
  revert h
  decide +kernel

end Cert.AttnIdeal.Layer
end
-- ==== Proof.Layer.AttnTable.lean ====
module

public import proofs.«01_k».proof.Proof.Layer.AttnBias

/-! The attention's tables of distances: what the first grid point stores of them, which every later point reads. -/

@[expose] public section

set_option maxRecDepth 65536

noncomputable section

namespace Cert.AttnIdeal.Layer

open Cert.AttnIdeal Cert.AttnIdeal.Gen Idealize.ShloMosaic Idealize.ShloMosaic.TcCoe Idealize.SL.Sem

variable {F : FTy → Type} [FloatOps F] [Named F]

theorem at_tab (k h : ℕ) (hk : k < 2) (hh : h < 16) (inb) (f : S1x1x256x128.Idx → F .f32)
    (hf : f = tab k (Cert.AttnRefIdeal.lit0 ⟨h, hh⟩)) (x : S1x1x256x128.Idx) :
    f x = tables ((Rect.unit (s := S2x16x256x128) ![k, h, 0, 0] S1x1x256x128.size inb).emb x) := by
  subst hf
  have key : ∀ (a : Fin 2) (b : Fin 16) (x' : S1x1x256x128.Idx), a = ⟨k, hk⟩ → b = ⟨h, hh⟩ → x' = x →
      tab k (Cert.AttnRefIdeal.lit0 ⟨h, hh⟩) x = tab (F := F) a.val (Cert.AttnRefIdeal.lit0 b) x' := by
    rintro _ _ _ rfl rfl rfl
    rfl
  unfold tables
  idx_bounds x
  refine key _ _ _ (Fin.ext ?_) (Fin.ext ?_) ?_
  · simp [Rect.emb, Rect.unit]
  · simp [Rect.emb, Rect.unit]
  · funext d
    fin_cases d <;> apply Fin.ext <;> simp [ix4, Rect.emb, Rect.unit] <;> omega

set_option maxHeartbeats 4000000 in
/-- Every store of the tables holds its table. -/
theorem stores_tables : ∀ p ∈ (kernelRun0_A.sl.HS0_32 (F := F)), ∀ x : p.1.shape.Idx, p.2 x = tables (p.1.emb x) := by
  dsimp only [kernelRun0_A.sl.HS0_32]
  refine List.forall_mem_cons.2 ⟨?_, ?_⟩
  · exact at_tab 0 15 (by decide) (by decide) (by decide) _ rfl
  refine List.forall_mem_cons.2 ⟨?_, ?_⟩
  · exact at_tab 1 15 (by decide) (by decide) (by decide) _ rfl
  refine List.forall_mem_cons.2 ⟨?_, ?_⟩
  · exact at_tab 0 14 (by decide) (by decide) (by decide) _ rfl
  refine List.forall_mem_cons.2 ⟨?_, ?_⟩
  · exact at_tab 1 14 (by decide) (by decide) (by decide) _ rfl
  refine List.forall_mem_cons.2 ⟨?_, ?_⟩
  · exact at_tab 0 13 (by decide) (by decide) (by decide) _ rfl
  refine List.forall_mem_cons.2 ⟨?_, ?_⟩
  · exact at_tab 1 13 (by decide) (by decide) (by decide) _ rfl
  refine List.forall_mem_cons.2 ⟨?_, ?_⟩
  · exact at_tab 0 12 (by decide) (by decide) (by decide) _ rfl
  refine List.forall_mem_cons.2 ⟨?_, ?_⟩
  · exact at_tab 1 12 (by decide) (by decide) (by decide) _ rfl
  refine List.forall_mem_cons.2 ⟨?_, ?_⟩
  · exact at_tab 0 11 (by decide) (by decide) (by decide) _ rfl
  refine List.forall_mem_cons.2 ⟨?_, ?_⟩
  · exact at_tab 1 11 (by decide) (by decide) (by decide) _ rfl
  refine List.forall_mem_cons.2 ⟨?_, ?_⟩
  · exact at_tab 0 10 (by decide) (by decide) (by decide) _ rfl
  refine List.forall_mem_cons.2 ⟨?_, ?_⟩
  · exact at_tab 1 10 (by decide) (by decide) (by decide) _ rfl
  refine List.forall_mem_cons.2 ⟨?_, ?_⟩
  · exact at_tab 0 9 (by decide) (by decide) (by decide) _ rfl
  refine List.forall_mem_cons.2 ⟨?_, ?_⟩
  · exact at_tab 1 9 (by decide) (by decide) (by decide) _ rfl
  refine List.forall_mem_cons.2 ⟨?_, ?_⟩
  · exact at_tab 0 8 (by decide) (by decide) (by decide) _ rfl
  refine List.forall_mem_cons.2 ⟨?_, ?_⟩
  · exact at_tab 1 8 (by decide) (by decide) (by decide) _ rfl
  refine List.forall_mem_cons.2 ⟨?_, ?_⟩
  · exact at_tab 0 7 (by decide) (by decide) (by decide) _ rfl
  refine List.forall_mem_cons.2 ⟨?_, ?_⟩
  · exact at_tab 1 7 (by decide) (by decide) (by decide) _ rfl
  refine List.forall_mem_cons.2 ⟨?_, ?_⟩
  · exact at_tab 0 6 (by decide) (by decide) (by decide) _ rfl
  refine List.forall_mem_cons.2 ⟨?_, ?_⟩
  · exact at_tab 1 6 (by decide) (by decide) (by decide) _ rfl
  refine List.forall_mem_cons.2 ⟨?_, ?_⟩
  · exact at_tab 0 5 (by decide) (by decide) (by decide) _ rfl
  refine List.forall_mem_cons.2 ⟨?_, ?_⟩
  · exact at_tab 1 5 (by decide) (by decide) (by decide) _ rfl
  refine List.forall_mem_cons.2 ⟨?_, ?_⟩
  · exact at_tab 0 4 (by decide) (by decide) (by decide) _ rfl
  refine List.forall_mem_cons.2 ⟨?_, ?_⟩
  · exact at_tab 1 4 (by decide) (by decide) (by decide) _ rfl
  refine List.forall_mem_cons.2 ⟨?_, ?_⟩
  · exact at_tab 0 3 (by decide) (by decide) (by decide) _ rfl
  refine List.forall_mem_cons.2 ⟨?_, ?_⟩
  · exact at_tab 1 3 (by decide) (by decide) (by decide) _ rfl
  refine List.forall_mem_cons.2 ⟨?_, ?_⟩
  · exact at_tab 0 2 (by decide) (by decide) (by decide) _ rfl
  refine List.forall_mem_cons.2 ⟨?_, ?_⟩
  · exact at_tab 1 2 (by decide) (by decide) (by decide) _ rfl
  refine List.forall_mem_cons.2 ⟨?_, ?_⟩
  · exact at_tab 0 1 (by decide) (by decide) (by decide) _ rfl
  refine List.forall_mem_cons.2 ⟨?_, ?_⟩
  · exact at_tab 1 1 (by decide) (by decide) (by decide) _ rfl
  refine List.forall_mem_cons.2 ⟨?_, ?_⟩
  · exact at_tab 0 0 (by decide) (by decide) (by decide) _ rfl
  refine List.forall_mem_cons.2 ⟨?_, ?_⟩
  · exact at_tab 1 0 (by decide) (by decide) (by decide) _ rfl
  intro p hp
  cases hp

/-- The tables read back after the first point. -/
theorem tables_held (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole)
    (arg7 : Memref sig .tc .vmem S1x1024x1024 .bf16) (harg7 : arg7.IsWhole) (arg8 : Memref sig .tc .vmem S1x1024x128 .f32) (harg8 : arg8.IsWhole) (arg9 : Memref sig .tc .vmem S2x16x256x128 .f32) (harg9 : arg9.IsWhole) (hc0 : cond0_0 i)
    (x0 : Vec F S1x1024x1024 .bf16) (x1 : Vec F S1x128x1024 .bf16) (x2 : Vec F S1x1024x1024 .bf16) (x3 : Vec F S1x128x1024 .bf16) (x4 : Vec F S1x1024x1024 .bf16)
    (v : Memref sig .tc .vmem S2x16x256x128 .f32) :
    v.view.read (Elt F) (v.view.writes (Elt F) v.view.junk (kernelRun0_A.sl.HS0_32 (F := F))) = tables := by
  rw [View.read_writes_junk_eq_canon]
  funext y
  exact View.canon_apply_of_pieces tables _ stores_tables y
    (scover0_A_0 c i arg2 harg2 arg3 harg3 arg4 harg4 arg5 harg5 arg6 harg6 arg7 harg7 arg8 harg8 arg9 harg9 hc0 x0 x1 x2 x3 x4 y)

end Cert.AttnIdeal.Layer
end
-- ==== Proof.Layer.AttnPoint.lean ====
module

public import proofs.«01_k».proof.Proof.Layer.AttnBlock

/-! The expressions of one grid point of the attention, read at an entry on the extended reals. -/

@[expose] public section

set_option maxRecDepth 65536

noncomputable section

namespace Cert.AttnIdeal.Layer

open Cert.AttnIdeal Cert.AttnIdeal.Gen Idealize.ShloMosaic Idealize.ShloMosaic.TcCoe Idealize.SL.Sem

theorem kwin_at (a b : Vec Ideal S1x128x128 .bf16) (i : S256x128.Idx) : kwin a b i
    = if h : (i 0).val < 128 then a (ix3 0 ⟨(i 0).val, h⟩ (i 1)) else b (ix3 0 ⟨(i 0).val - 128, by idx_bounds i; omega⟩ (i 1)) := by
  unfold kwin
  pointwise

theorem scores_at (keep : IVec S1x128 1) (q kp kc : Vec Ideal S1x128x128 .bf16) (b : Vec Ideal S1x1x256x128 .f32) (i : S256x128.Idx) :
    scores keep q kp kc b i
      = ∑ x : Fin 128, Scalar.select (keep (ix2 0 x)) (kwin kp kc (ix2 (i 0) x) * q (ix3 0 (i 1) x) : EReal) 0 + b (ix4 0 0 (i 0) (i 1)) := by
  unfold scores
  pointwise

theorem top_at (s : FVec Ideal S256x128 .f32) (i : S1x128.Idx) :
    top s i = Finset.fold max (Ideal.ofBits FTy.f32 0xFF800000#32) (fun x => s (ix2 x (i 1))) Finset.univ := by
  unfold top
  pointwise

theorem weights_at (s : FVec Ideal S256x128 .f32) (i : S256x128.Idx) : weights s i = Ideal.exp2 (s i - top s (ix2 0 (i 1)) : EReal) := by
  unfold weights
  pointwise
  rfl

theorem total_at (s : FVec Ideal S256x128 .f32) (i : S1x128.Idx) : total s i = ∑ x, weights s (ix2 x (i 1)) := by
  unfold total
  pointwise

theorem headOut_at (vp vc : Vec Ideal S1x128x128 .bf16) (s : FVec Ideal S256x128 .f32) (i : S128x128.Idx) : headOut vp vc s i
    = (∑ x : Fin 256, (kwin vp vc (ix2 x (i 0)) * weights s (ix2 x (i 1)) : EReal)) * Ideal.div 1 (total s (ix2 0 (i 1))) := by
  unfold headOut
  pointwise

theorem headLse_at (s : FVec Ideal S256x128 .f32) (i : S1x128.Idx) :
    headLse s i = (top s i + Ideal.log (total s i) * Ideal.ofBits FTy.f32 0x3FB8AA3B#32 : EReal) := by
  unfold headLse
  pointwise

theorem half0_at (x : Fin 128) : half0 (ix2 0 x) = if x.val < 64 then 1#1 else 0#1 := by
  unfold half0
  pointwise [k0_pay60]
  revert x
  decide +kernel

theorem half1_at (x : Fin 128) : half1 (ix2 0 x) = if x.val < 64 then 0#1 else 1#1 := by
  unfold half1
  pointwise [k0_pay60]
  revert x
  decide +kernel

theorem lane_half (x : Fin 128) : IntOp.cmpi CmpIPredicate.slt (BitVec.ofNat 32 x.val) 64#32 = if x.val < 64 then 1#1 else 0#1 := by
  revert x
  decide +kernel

theorem pairOut_at (q kp kc vp vc : Vec Ideal S1x128x128 .bf16) (b0 b1 : Vec Ideal S1x1x256x128 .f32) (i : S1x128x128.Idx) :
    pairOut q kp kc vp vc b0 b1 i = if (i 2).val < 64 then headOut vp vc (scores half0 q kp kc b0) (ix2 (i 2) (i 1))
      else headOut vp vc (scores half1 q kp kc b1) (ix2 (i 2) (i 1)) := by
  unfold pairOut
  pointwise [k0_pay61]
  have e := lane_half (i 2)
  rw [e]
  split <;> rfl

theorem stackLse_at (f : (h : ℕ) → h < 16 → FVec Ideal S1x128 .f32) (i : S1x128x128.Idx) :
    stackLse f i = if h : (i 2).val < 16 then f (i 2).val h (ix2 0 (i 1)) else (0 : EReal) := by
  unfold stackLse k0_pay2
  pointwise
  idx_bounds i
  generalize (i 2).val = n at *
  by_cases h : n < 16
  · interval_cases n <;> rfl
  · rw [dif_neg h]
    repeat rw [dif_neg (by omega)]

/-- A product over the lanes of one half is the product over the head's 64 lanes. -/
theorem sum_half (d : ℕ) (hd : d < 2) (g : Fin 128 → EReal) :
    ∑ x : Fin 128, Scalar.select ((if d = 0 then half0 else half1) (ix2 0 x)) (g x) 0
      = ∑ y : Fin 64, g ⟨64 * d + y.val, by omega⟩ := by
  have e : ∀ x : Fin 128, Scalar.select ((if d = 0 then half0 else half1) (ix2 0 x)) (g x) 0
      = if x.val / 64 = d then g x else 0 := by
    intro x
    have := x.isLt
    obtain rfl | rfl : d = 0 ∨ d = 1 := by omega
    · rw [if_pos rfl, half0_at]
      by_cases h : x.val < 64
      · rw [if_pos h, if_pos (by omega)]
        rfl
      · rw [if_neg h, if_neg (by omega)]
        rfl
    · rw [if_neg (by decide), half1_at]
      by_cases h : x.val < 64
      · rw [if_pos h, if_neg (by omega)]
        rfl
      · rw [if_neg h, if_pos (by omega)]
        rfl
  rw [Finset.sum_congr rfl fun x _ => e x, ← Finset.sum_filter]
  refine (Finset.sum_of_injOn (fun y : Fin 64 => (⟨64 * d + y.val, by omega⟩ : Fin 128)) ?_ ?_ ?_ fun _ _ => rfl).symm
  · intro a _ b _ h
    have := Fin.mk.inj h
    apply Fin.ext
    omega
  · intro y _
    have := y.isLt
    simp only [Finset.coe_filter, Finset.mem_univ, true_and, Set.mem_setOf_eq]
    omega
  · intro x hx hn
    exfalso
    apply hn
    simp only [Finset.mem_filter, Finset.mem_univ, true_and] at hx
    have := x.isLt
    exact ⟨⟨x.val - 64 * d, by omega⟩, Finset.mem_coe.2 (Finset.mem_univ _), Fin.ext (by show 64 * d + (x.val - 64 * d) = x.val; omega)⟩

end Cert.AttnIdeal.Layer
end
-- ==== Proof.Layer.AttnMath.lean ====
module

public import Idealize.ShloMosaic.Lib.Pipeline.ValueKit
public import Idealize.ShloMosaic.Lib.IdealHost

/-! A softmax over a row of 4096 scores of which only a window of 256 can be other than minus infinity, against the same
softmax over the window: the greatest score, the sum of the weights and the weighted sum of the values agree. -/

@[expose] public section

noncomputable section

namespace Cert.AttnIdeal.Layer

open Idealize.ShloMosaic

/-- `u` is the part of the row `f` that the block `A` of 128 queries sees: the 128 keys before the block and the block's own. -/
structure InWin (A : ℕ) (f : Fin 4096 → EReal) (u : Fin 256 → EReal) : Prop where
  inn : ∀ (k : Fin 256) (j : Fin 4096), 128 * A + k.val = j.val + 128 → u k = f j
  low : ∀ k : Fin 256, 128 * A + k.val < 128 → u k = ⊥
  out : ∀ j : Fin 4096, j.val + 128 < 128 * A ∨ 128 * A + 128 ≤ j.val → f j = ⊥

/-- A sum over the row of terms that vanish outside the window is the sum over the window. -/
theorem sum_window (A : ℕ) (hA : A < 32) (f : Fin 4096 → EReal) (g : Fin 256 → EReal)
    (inn : ∀ (k : Fin 256) (j : Fin 4096), 128 * A + k.val = j.val + 128 → g k = f j)
    (low : ∀ k : Fin 256, 128 * A + k.val < 128 → g k = 0)
    (out : ∀ j : Fin 4096, j.val + 128 < 128 * A ∨ 128 * A + 128 ≤ j.val → f j = 0) : ∑ k, g k = ∑ j, f j := by
  have e : ∑ k, g k = ∑ k ∈ Finset.univ.filter (fun k : Fin 256 => 128 ≤ 128 * A + k.val), g k :=
    (Finset.sum_filter_of_ne fun k _ hk => not_lt.1 fun h => hk (low k h)).symm
  rw [e]
  refine Finset.sum_of_injOn (fun k => ⟨(128 * A + k.val - 128) % 4096, Nat.mod_lt _ (by decide)⟩) ?_ (fun _ _ => Finset.mem_coe.2 (Finset.mem_univ _)) ?_ ?_
  · intro a ha b hb hab
    simp only [Finset.coe_filter, Finset.mem_univ, true_and, Set.mem_setOf_eq] at ha hb
    have := Fin.mk.inj hab
    have h1 := a.isLt
    have h2 := b.isLt
    apply Fin.ext
    omega
  · intro j _ hj
    by_contra hne
    apply hj
    have hw : ¬ (j.val + 128 < 128 * A ∨ 128 * A + 128 ≤ j.val) := fun h => hne (out j h)
    have hl := j.isLt
    refine ⟨⟨j.val + 128 - 128 * A, by omega⟩, ?_, ?_⟩
    · simp only [Finset.coe_filter, Finset.mem_univ, true_and, Set.mem_setOf_eq]
      omega
    · apply Fin.ext
      show (128 * A + (j.val + 128 - 128 * A) - 128) % 4096 = j.val
      omega
  · intro k hk
    simp only [Finset.mem_filter, Finset.mem_univ, true_and] at hk
    have := k.isLt
    refine inn k _ ?_
    show 128 * A + k.val = (128 * A + k.val - 128) % 4096 + 128
    omega

/-- The greatest score of the window is the greatest of the row. -/
theorem max_window (A : ℕ) (hA : A < 32) (f : Fin 4096 → EReal) (u : Fin 256 → EReal) (w : InWin A f u) :
    Finset.univ.fold max ⊥ u = Finset.univ.fold max ⊥ f := by
  apply le_antisymm
  · refine (Finset.fold_max_le _).2 ⟨bot_le, fun k _ => ?_⟩
    by_cases h : 128 * A + k.val < 128
    · rw [w.low k h]
      exact bot_le
    · have := k.isLt
      rw [w.inn k ⟨128 * A + k.val - 128, by omega⟩ (by show _ = 128 * A + k.val - 128 + 128; omega)]
      exact (Finset.le_fold_max _).2 (Or.inr ⟨_, Finset.mem_univ _, le_rfl⟩)
  · refine (Finset.fold_max_le _).2 ⟨bot_le, fun j _ => ?_⟩
    by_cases h : j.val + 128 < 128 * A ∨ 128 * A + 128 ≤ j.val
    · rw [w.out j h]
      exact bot_le
    · rw [← w.inn ⟨j.val + 128 - 128 * A, by omega⟩ j (by show 128 * A + (j.val + 128 - 128 * A) = _; omega)]
      exact (Finset.le_fold_max _).2 (Or.inr ⟨_, Finset.mem_univ _, le_rfl⟩)

/-- The bit patterns that occur. -/
theorem word_two : Ideal.ofBits .f32 0x40000000#32 = ((2 : ℝ) : EReal) := by
  simp [Ideal.ofBits, Ideal.ieee]
  norm_num
  rw [← EReal.coe_mul]
  norm_num

theorem word_bot : Ideal.ofBits .f32 0xFF800000#32 = (⊥ : EReal) := by
  simp [Ideal.ofBits, Ideal.ieee]

theorem word_top : Ideal.ofBits .f32 0x7F800000#32 = (⊤ : EReal) := by
  simp [Ideal.ofBits, Ideal.ieee]

/-- Two to a power is the kernel's power of two. -/
theorem pow_two (x : EReal) : Ideal.pow (Ideal.ofBits .f32 0x40000000#32) x = Ideal.exp2 x := by
  rw [word_two]
  induction x using EReal.rec with
  | bot =>
    show (if (2 : ℝ) < 0 then (⊥ : EReal) else if (1 : ℝ) < 2 then 0 else if (2 : ℝ) = 1 then 1 else ⊤) = 0
    rw [if_neg (by norm_num), if_pos (by norm_num)]
  | coe r => rfl
  | top =>
    show (if (2 : ℝ) < 0 then (⊥ : EReal) else if (1 : ℝ) < 2 then ⊤ else if (2 : ℝ) = 1 then 1 else 0) = ⊤
    rw [if_neg (by norm_num), if_pos (by norm_num)]

theorem exp2_bot_sub (M : EReal) : Ideal.exp2 (⊥ - M) = 0 := by
  rw [EReal.bot_sub]
  rfl

/-- The sum of the window's weights is the row's. -/
theorem total_window (A : ℕ) (hA : A < 32) (f : Fin 4096 → EReal) (u : Fin 256 → EReal) (w : InWin A f u) (M : EReal) :
    ∑ k, Ideal.exp2 (u k - M) = ∑ j, Ideal.exp2 (f j - M) :=
  sum_window A hA _ _ (fun k j h => by rw [w.inn k j h]) (fun k h => by rw [w.low k h, exp2_bot_sub])
    (fun j h => by rw [w.out j h, exp2_bot_sub])

/-- A row whose scores are real or minus infinity, one of them real, has a real greatest score. -/
theorem max_real (f : Fin 4096 → EReal) (hf : ∀ j, f j ≠ ⊤) (i : Fin 4096) (hi : f i ≠ ⊥) :
    ∃ M : ℝ, Finset.univ.fold max ⊥ f = (M : EReal) := by
  have h1 : f i ≤ Finset.univ.fold max ⊥ f := (Finset.le_fold_max _).2 (Or.inr ⟨i, Finset.mem_univ _, le_rfl⟩)
  have h2 : Finset.univ.fold max ⊥ f < ⊤ := (Finset.fold_max_lt _).2 ⟨bot_lt_top, fun j _ => lt_top_iff_ne_top.2 (hf j)⟩
  exact ⟨_, (EReal.coe_toReal h2.ne fun h => hi (le_bot_iff.1 (h ▸ h1))).symm⟩

/-- A score's weight is a real number, not negative, and positive where the score is real. -/
theorem weight_real (x : EReal) (hx : x ≠ ⊤) (M : ℝ) :
    ∃ p : ℝ, Ideal.exp2 (x - (M : EReal)) = (p : EReal) ∧ 0 ≤ p ∧ (x ≠ ⊥ → 0 < p) := by
  induction x using EReal.rec with
  | bot => exact ⟨0, by rw [exp2_bot_sub]; rfl, le_rfl, fun h => absurd rfl h⟩
  | coe r =>
    refine ⟨Real.rpow 2 (r - M), ?_, ?_, fun _ => ?_⟩
    · rw [← EReal.coe_sub]
      rfl
    · exact Real.rpow_nonneg (by norm_num) _
    · exact Real.rpow_pos_of_pos (by norm_num) _
  | top => exact absurd rfl hx

theorem coe_sum {n : ℕ} (p : Fin n → ℝ) : ((∑ j, p j : ℝ) : EReal) = ∑ j, (p j : EReal) := by
  classical
  induction (Finset.univ : Finset (Fin n)) using Finset.induction_on with
  | empty => simp
  | insert a s ha ih => rw [Finset.sum_insert ha, Finset.sum_insert ha, EReal.coe_add, ih]

theorem div_real (a l : ℝ) (hl : 0 < l) : Ideal.div (a : EReal) (l : EReal) = ((a / l : ℝ) : EReal) := by
  unfold Ideal.div
  rw [if_neg (by exact_mod_cast hl.ne'), ← EReal.coe_inv, ← EReal.coe_mul, div_eq_mul_inv]

/-- The weighted sum of the window's values, divided once by the weights' sum, is the row's sum of the values by the
divided weights. -/
theorem out_window (A : ℕ) (hA : A < 32) (f : Fin 4096 → EReal) (u : Fin 256 → EReal) (w : InWin A f u)
    (hf : ∀ j, f j ≠ ⊤) (i : Fin 4096) (hi : f i ≠ ⊥) (v : Fin 4096 → EReal) (hv : ∀ j, ∃ r : ℝ, v j = (r : EReal)) (vw : Fin 256 → EReal)
    (vin : ∀ (k : Fin 256) (j : Fin 4096), 128 * A + k.val = j.val + 128 → vw k = v j) :
    (∑ k, vw k * Ideal.exp2 (u k - Finset.univ.fold max ⊥ f)) * Ideal.div 1 (∑ k, Ideal.exp2 (u k - Finset.univ.fold max ⊥ f))
      = ∑ j, v j * Ideal.div (Ideal.exp2 (f j - Finset.univ.fold max ⊥ f)) (∑ j, Ideal.exp2 (f j - Finset.univ.fold max ⊥ f)) := by
  obtain ⟨M, hM⟩ := max_real f hf i hi
  rw [hM, total_window A hA f u w]
  have e : ∑ k, vw k * Ideal.exp2 (u k - (M : EReal)) = ∑ j, v j * Ideal.exp2 (f j - (M : EReal)) :=
    sum_window A hA _ _ (fun k j h => by rw [w.inn k j h, vin k j h]) (fun k h => by rw [w.low k h, exp2_bot_sub, mul_zero])
      (fun j h => by rw [w.out j h, exp2_bot_sub, mul_zero])
  rw [e]
  choose p hp h0 h1 using fun j => weight_real (f j) (hf j) M
  choose r hr using hv
  simp only [hp, hr]
  have hl : 0 < ∑ j, p j := Finset.sum_pos' (fun j _ => h0 j) ⟨i, Finset.mem_univ _, h1 i hi⟩
  rw [← coe_sum, ← EReal.coe_one, div_real 1 _ hl]
  simp only [div_real _ _ hl, ← EReal.coe_mul, ← coe_sum]
  congr 1
  rw [Finset.sum_mul]
  refine Finset.sum_congr rfl fun j _ => ?_
  ring

end Cert.AttnIdeal.Layer
end
-- ==== Proof.Layer.AttnRef.lean ====
module

public import proofs.«01_k».proof.Proof.Gen.AttnRefIdeal.Run
public import Idealize.ShloMosaic.Lib.Pipeline.ValueKit

/-! The reference of the attention in stages: its scores, their greatest, the weights, the weights' sums and the two
results, each read at an entry. -/

@[expose] public section

set_option maxRecDepth 16384

noncomputable section

namespace Cert.AttnRefIdeal.Layer

open Cert.AttnRefIdeal Cert.AttnRefIdeal.Gen Cert.AttnRefIdeal.Value Idealize.ShloMosaic Idealize.ShloMosaic.TcCoe Idealize.SL.Sem

variable {F : FTy → Type} [FloatOps F]

/-- The scores: minus infinity outside the window. -/
def scoresR (X : Vec F S4x4096x3072 .bf16) : FVec F S4x16x4096x4096 .f32 :=
  select (broadcastInDim S4x16x4096x4096 ![2, 3] bcast_S4096x4096_S4x16x4096x4096_2_3 (andi (cmpi .sge (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 0#32))) (cmpi .sle (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 128#32))))) (subf (Host.dotGeneral dot_S4x4096x16x64_S4x4096x16x64_S4x16x4096x4096_3_3_1_1_02_02 none (shapeCast S4x4096x16x64 (extf .f32 (extractStridedSlice S4x4096x1024 ![0, 0, 0] X slices_S4x4096x3072_S4x4096x1024_0_0_0) bitsLt_bf16_f32) shapeCasts_S4x4096x1024_S4x4096x16x64) (shapeCast S4x4096x16x64 (extf .f32 (extractStridedSlice S4x4096x1024 ![0, 0, 1024] X slices_S4x4096x3072_S4x4096x1024_0_0_1024) bitsLt_bf16_f32) shapeCasts_S4x4096x1024_S4x4096x16x64)) (broadcastInDim S4x16x4096x4096 ![0, 1, 2, 3] bcast_S1x16x4096x4096_S4x16x4096x4096_0_1_2_3 (mulf (broadcastInDim S1x16x4096x4096 ![0, 1, 2, 3] bcast_S1x16x1x1_S1x16x4096x4096_0_1_2_3 (broadcastInDim S1x16x1x1 ![1] bcast_S16_S1x16x1x1_1 ((fun i => FloatOps.ofBits .f32 (lit0 (S16.rowMajor i)))))) (broadcastInDim S1x16x4096x4096 ![0, 1, 2, 3] bcast_S1x1x4096x4096_S1x16x4096x4096_0_1_2_3 (broadcastInDim S1x1x4096x4096 ![2, 3] bcast_S4096x4096_S1x1x4096x4096_2_3 (sitofp .f32 (muli (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 4#32))))))))) (broadcastInDim S4x16x4096x4096 ![] bcast_S_S4x16x4096x4096 (id (constant S_ .f32 0xFF800000#32)))

/-- Each query's greatest score. -/
def topR (S : FVec F S4x16x4096x4096 .f32) : FVec F S4x16x4096 .f32 :=
  Host.reduce FloatOps.maximumf S (constant S_ .f32 0xFF800000#32) reducesTo_S4x16x4096x4096_S4x16x4096_d3 h_S_

/-- Two to the power of the scores below the greatest. -/
def weightsR (S : FVec F S4x16x4096x4096 .f32) : FVec F S4x16x4096x4096 .f32 :=
  Host.powf (broadcastInDim S4x16x4096x4096 ![] bcast_S_S4x16x4096x4096 (constant S_ .f32 0x40000000#32)) (subf S (broadcastInDim S4x16x4096x4096 ![0, 1, 2, 3] bcast_S4x16x4096x1_S4x16x4096x4096_0_1_2_3 (broadcastInDim S4x16x4096x1 ![0, 1, 2] bcast_S4x16x4096_S4x16x4096x1_0_1_2 (topR S))))

/-- Their sums. -/
def totalR (S : FVec F S4x16x4096x4096 .f32) : FVec F S4x16x4096 .f32 :=
  Host.reduceAdd (weightsR S) (constant S_ .f32 0x00000000#32) reducesTo_S4x16x4096x4096_S4x16x4096_d3 h_S_

/-- The first result from the scores. -/
def outR (X : Vec F S4x4096x3072 .bf16) (S : FVec F S4x16x4096x4096 .f32) : FVec F S4x4096x1024 .bf16 :=
  truncf .bf16 (shapeCast S4x4096x1024 (transpose S4x4096x16x64 [0, 3, 1, 2] (Host.dotGeneral dot_S4x4096x16x64_S4x16x4096x4096_S4x16x64x4096_1_3_3_2_02_01 none (shapeCast S4x4096x16x64 (extf .f32 (extractStridedSlice S4x4096x1024 ![0, 0, 2048] X slices_S4x4096x3072_S4x4096x1024_0_0_2048) bitsLt_bf16_f32) shapeCasts_S4x4096x1024_S4x4096x16x64) (Host.divf (weightsR S) (broadcastInDim S4x16x4096x4096 ![0, 1, 2, 3] bcast_S4x16x4096x1_S4x16x4096x4096_0_1_2_3 (broadcastInDim S4x16x4096x1 ![0, 1, 2] bcast_S4x16x4096_S4x16x4096x1_0_1_2 (totalR S))))) transposes_S4x16x64x4096_S4x4096x16x64_0_3_1_2) shapeCasts_S4x4096x16x64_S4x4096x1024) bitsLt_bf16_f32

/-- The second result from the scores. -/
def lseR (S : FVec F S4x16x4096x4096 .f32) : FVec F S4x4096x128 .f32 :=
  pad S4x4096x128 ![0, 0, 0] ![0, 0, 112] ![0, 0, 0] (transpose S4x4096x16 [0, 2, 1] (shapeCast S4x16x4096 (addf (broadcastInDim S4x16x4096x1 ![0, 1, 2] bcast_S4x16x4096_S4x16x4096x1_0_1_2 (topR S)) (mulf (Host.log (broadcastInDim S4x16x4096x1 ![0, 1, 2] bcast_S4x16x4096_S4x16x4096x1_0_1_2 (totalR S))) (broadcastInDim S4x16x4096x1 ![] bcast_S_S4x16x4096x1 (constant S_ .f32 0x3FB8AA3B#32)))) shapeCasts_S4x16x4096x1_S4x16x4096) transposes_S4x16x4096_S4x4096x16_0_2_1) (sitofp .f32 (constantI S_ 32 0#32)) pads_S4x4096x16_S4x4096x128_000_000_01120 h_S_

/-- The logarithms before the zero lanes are put behind them. -/
def rowsR (S : FVec F S4x16x4096x4096 .f32) : FVec F S4x4096x16 .f32 :=
  transpose S4x4096x16 [0, 2, 1] (shapeCast S4x16x4096 (addf (broadcastInDim S4x16x4096x1 ![0, 1, 2] bcast_S4x16x4096_S4x16x4096x1_0_1_2 (topR S)) (mulf (Host.log (broadcastInDim S4x16x4096x1 ![0, 1, 2] bcast_S4x16x4096_S4x16x4096x1_0_1_2 (totalR S))) (broadcastInDim S4x16x4096x1 ![] bcast_S_S4x16x4096x1 (constant S_ .f32 0x3FB8AA3B#32)))) shapeCasts_S4x16x4096x1_S4x16x4096) transposes_S4x16x4096_S4x4096x16_0_2_1

theorem lseR_eq (S : FVec F S4x16x4096x4096 .f32) : lseR S
    = pad S4x4096x128 ![0, 0, 0] ![0, 0, 112] ![0, 0, 0] (rowsR S) (sitofp .f32 (constantI S_ 32 0#32)) pads_S4x4096x16_S4x4096x128_000_000_01120 h_S_ := rfl

theorem res_out (m : (ℓ : Loc nD τ sig) → Buf (Elt F) ℓ) (c : Dev nD) :
    res_main_v51 m c = outR (m ((c.tc : Thread nD τ).loc main_arg0)) (scoresR (m ((c.tc : Thread nD τ).loc main_arg0))) := rfl

theorem res_lse (m : (ℓ : Loc nD τ sig) → Buf (Elt F) ℓ) (c : Dev nD) :
    res_main_v52 m c = lseR (scoresR (m ((c.tc : Thread nD τ).loc main_arg0))) := rfl

theorem topR_at (S : FVec Ideal S4x16x4096x4096 .f32) (i : S4x16x4096.Idx) :
    topR S i = Finset.fold max (Ideal.ofBits FTy.f32 0xFF800000#32) (fun x => S (ix4 (i 0) (i 1) (i 2) x)) Finset.univ := by
  unfold topR
  pointwise

theorem weightsR_at (S : FVec Ideal S4x16x4096x4096 .f32) (i : S4x16x4096x4096.Idx) :
    weightsR S i = Ideal.pow (Ideal.ofBits FTy.f32 0x40000000#32) (S i - topR S (ix3 (i 0) (i 1) (i 2))) := by
  unfold weightsR
  pointwise

theorem totalR_at (S : FVec Ideal S4x16x4096x4096 .f32) (i : S4x16x4096.Idx) :
    totalR S i = ∑ x, weightsR S (ix4 (i 0) (i 1) (i 2) x) := by
  unfold totalR
  pointwise

theorem outR_at (X : Vec Ideal S4x4096x3072 .bf16) (S : FVec Ideal S4x16x4096x4096 .f32) (i : S4x4096x1024.Idx) :
    outR X S i = ∑ x, X (ix3 (i 0) x ⟨2048 + (i 2).val, by idx_bounds i; omega⟩) *
        Ideal.div (weightsR S (ix4 (i 0) ⟨(i 2).val / 64, by idx_bounds i; omega⟩ (i 1) x))
          (totalR S (ix3 (i 0) ⟨(i 2).val / 64, by idx_bounds i; omega⟩ (i 1))) := by
  unfold outR
  pointwise

theorem rows_at (v : FVec Ideal S4x16x4096x1 .f32) (i : S4x4096x16.Idx) :
    transpose S4x4096x16 [0, 2, 1] (shapeCast S4x16x4096 v shapeCasts_S4x16x4096x1_S4x16x4096) transposes_S4x16x4096_S4x4096x16_0_2_1 i
      = v (ix4 (i 0) (i 2) (i 1) 0) := by
  pointwise

theorem col_at (v : FVec Ideal S4x16x4096 .f32) (i : S4x16x4096x1.Idx) :
    broadcastInDim S4x16x4096x1 ![0, 1, 2] bcast_S4x16x4096_S4x16x4096x1_0_1_2 v i = v (ix3 (i 0) (i 1) (i 2)) := by
  pointwise

theorem word_at (i : S4x16x4096x1.Idx) :
    broadcastInDim S4x16x4096x1 ![] bcast_S_S4x16x4096x1 (constant S_ .f32 0x3FB8AA3B#32 : FVec Ideal S_ .f32) i = Ideal.ofBits FTy.f32 0x3FB8AA3B#32 := by
  pointwise

theorem sum_at (m l c : FVec Ideal S4x16x4096x1 .f32) (i : S4x16x4096x1.Idx) :
    addf m (mulf (Host.log l) c) i = m i + Ideal.log (l i) * c i := by
  pointwise

theorem rowsR_at (S : FVec Ideal S4x16x4096x4096 .f32) (i : S4x4096x16.Idx) :
    rowsR S i = topR S (ix3 (i 0) (i 2) (i 1)) + Ideal.log (totalR S (ix3 (i 0) (i 2) (i 1))) * Ideal.ofBits FTy.f32 0x3FB8AA3B#32 := by
  unfold rowsR
  rw [rows_at, sum_at, col_at, col_at, word_at]
  rfl

theorem pad_at (R : FVec Ideal S4x4096x16 .f32) (z : FVec Ideal S_ .f32) (i : S4x4096x128.Idx) :
    pad S4x4096x128 ![0, 0, 0] ![0, 0, 112] ![0, 0, 0] R z pads_S4x4096x16_S4x4096x128_000_000_01120 h_S_ i
      = if h : (i 2).val < 16 then R (ix3 (i 0) (i 1) ⟨(i 2).val, h⟩) else z (Shape.Idx.first h_S_) := by
  pointwise

theorem scoresR_at (X : Vec Ideal S4x4096x3072 .bf16) (i : S4x16x4096x4096.Idx) : scoresR X i = Scalar.select
      (IntOp.andi (IntOp.cmpi CmpIPredicate.sge (IntOp.subi (BitVec.ofNat 32 (i 2).val) (BitVec.ofNat 32 (i 3).val)) 0#32)
        (IntOp.cmpi CmpIPredicate.sle (IntOp.subi (BitVec.ofNat 32 (i 2).val) (BitVec.ofNat 32 (i 3).val)) 128#32))
      (∑ x : Fin 64, (X (ix3 (i 0) (i 2) ⟨(i 1).val * 64 + x.val, by idx_bounds i; omega⟩) : EReal)
          * X (ix3 (i 0) (i 3) ⟨1024 + ((i 1).val * 64 + x.val), by idx_bounds i; omega⟩)
        - (Ideal.ofBits FTy.f32 (lit0 (i 1)) : EReal) *
          (FloatOps.sitofp FTy.f32 (IntOp.muli (IntOp.subi (BitVec.ofNat 32 (i 2).val) (BitVec.ofNat 32 (i 3).val)) 4#32) : Ideal .f32))
      (Ideal.ofBits .f32 0xFF800000#32) := by
  unfold scoresR
  pointwise
  have e : S16.rowMajor (ix1 (i 1)) = (i 1 : Fin 16) := by
    have key : ∀ a : Fin 16, (S16.rowMajor (ix1 a)).val = a.val := by decide +kernel
    exact Fin.ext (key _)
  rw [e]
  rfl

end Cert.AttnRefIdeal.Layer
end
-- ==== Proof.Layer.AttnWindow.lean ====
module

public import proofs.«01_k».proof.Proof.Layer.AttnPoint
public import proofs.«01_k».proof.Proof.Layer.AttnMath
public import proofs.«01_k».proof.Proof.Layer.AttnBias
public import proofs.«01_k».proof.Proof.Layer.AttnRef

/-! A grid point's results are the reference's entries: its blocks of the argument, the scores of a window against the
reference's row of scores, and the two results from them. -/

@[expose] public section

set_option maxRecDepth 16384

noncomputable section

namespace Cert.AttnIdeal.Layer

open Cert.AttnIdeal Cert.AttnIdeal.Gen Idealize.ShloMosaic Idealize.ShloMosaic.TcCoe Idealize.SL.Sem
open Cert.AttnRefIdeal.Layer (scoresR scoresR_at topR topR_at weightsR weightsR_at totalR totalR_at outR outR_at rowsR rowsR_at)

variable (X : S4x4096x3072.Idx → EReal) (r : Fin 4) (jb : ℕ) (hjb : jb < 4)

/-- A grid point's block of 1024 rows of the queries, keys or values (`o` the first column). -/
def part (o : ℕ) (ho : o ≤ 2048) : Vec Ideal S1x1024x1024 .bf16 := fun y =>
  X (ix3 r ⟨1024 * jb + (y 1).val, by idx_bounds y; omega⟩ ⟨o + (y 2).val, by idx_bounds y; omega⟩)

/-- The 128 rows before it. -/
def prev (o : ℕ) (ho : o ≤ 2048) : Vec Ideal S1x128x1024 .bf16 := fun y =>
  X (ix3 r ⟨128 * (8 * jb - 1) + (y 1).val, by idx_bounds y; omega⟩ ⟨o + (y 2).val, by idx_bounds y; omega⟩)

/-- A window's row is the argument's. -/
theorem kwin_part (o : ℕ) (ho : o ≤ 2048) (a b : ℕ) (ha : a < 8) (hb : b < 8) (k : Fin 256) (x : Fin 128) (j : Fin 4096)
    (hj : 128 * (8 * jb + a) + k.val = j.val + 128) :
    kwin (before (part X r jb hjb o ho) (prev X r jb hjb o ho) a b ha hb) (sub (part X r jb hjb o ho) a b ha hb) (ix2 k x)
      = X (ix3 r j ⟨o + (128 * b + x.val), by omega⟩) := by
  have key : ∀ (i j : Fin 4096) (c d : Fin 3072), i.val = j.val → c.val = d.val → X (ix3 r i c) = X (ix3 r j d) :=
    fun i j c d h h' => by rw [Fin.ext h, Fin.ext h']
  have hk := k.isLt
  rw [kwin_at]
  by_cases h : k.val < 128
  · rw [dif_pos (show (ix2 k x 0 : Fin 256).val < 128 from h)]
    unfold before
    by_cases h0 : a = 0
    · rw [if_pos h0]
      subst h0
      refine key _ _ _ _ ?_ rfl
      show 128 * (8 * jb - 1) + k.val = j.val
      omega
    · rw [if_neg h0]
      refine key _ _ _ _ ?_ rfl
      show 1024 * jb + (128 * (a - 1) + k.val) = j.val
      omega
  · rw [dif_neg (show ¬ (ix2 k x 0 : Fin 256).val < 128 from h)]
    refine key _ _ _ _ ?_ rfl
    show 1024 * jb + (128 * a + (k.val - 128)) = j.val
    omega

/-- The table's entry a score adds. -/
theorem bsub_tables (k h : ℕ) (hk : k < 2) (hh : h < 16) (key : Fin 256) (q : Fin 128) :
    bsub (tables (F := Ideal)) k h hk hh (ix4 0 0 key q)
      = (if k = 0 then bias0 (F := Ideal) (Cert.AttnRefIdeal.lit0 ⟨h, hh⟩) else bias (F := Ideal) (Cert.AttnRefIdeal.lit0 ⟨h, hh⟩)) (ix2 key q) := by
  exact tab_at k (Cert.AttnRefIdeal.lit0 ⟨h, hh⟩) (ix4 0 0 key q)

/-- A grid point's scores against the reference's. -/
theorem win (a : ℕ) (ha : a < 8) (h : ℕ) (hh : h < 16) (q : Fin 128) (i : Fin 4096) (hi : i.val = 128 * (8 * jb + a) + q.val) :
    InWin (8 * jb + a) (fun j => scoresR (F := Ideal) X (ix4 r ⟨h, hh⟩ i j))
      (fun k => blockScores jb (part X r jb hjb 0 (by decide)) (prev X r jb hjb 1024 (by decide)) (part X r jb hjb 1024 (by decide))
        tables a h ha hh (ix2 k q)) := by
  have hq := q.isLt
  have mask : ∀ x y : EReal, Scalar.select (0#1) x y = y := fun _ _ => rfl
  have keep : ∀ x y : EReal, Scalar.select (1#1) x y = x := fun _ _ => rfl
  refine ⟨fun k j hj => ?_, fun k hk => ?_, fun j hj => ?_⟩
  · have hkl := k.isLt
    have hjl := j.isLt
    show blockScores _ _ _ _ _ _ _ _ _ _ = scoresR (F := Ideal) X _
    unfold blockScores
    rw [scores_at, sum_half (h % 2) (by omega), scoresR_at]
    have e1 : bsub (tables (F := Ideal)) (first jb a) h (first_lt jb a) hh (ix4 0 0 k q)
        = bias (F := Ideal) (Cert.AttnRefIdeal.lit0 ⟨h, hh⟩) (ix2 k q) := by
      rw [bsub_tables]
      split
      · rename_i h0
        rw [bias0_at]
        refine if_neg ?_
        show ¬ k.val < 128
        unfold first at h0
        split at h0 <;> omega
      · rfl
    have e2 := in_window i.val j.val (by omega) (by omega)
    have e3 := dist_at i.val j.val (by omega) (by omega)
    have es : (∑ y : Fin 64, (kwin (before (part X r jb hjb 1024 (by decide)) (prev X r jb hjb 1024 (by decide)) a (h / 2) ha (by omega))
          (sub (part X r jb hjb 1024 (by decide)) a (h / 2) ha (by omega)) (ix2 k ⟨64 * (h % 2) + y.val, by omega⟩)
          * sub (part X r jb hjb 0 (by decide)) a (h / 2) ha (by omega) (ix3 0 q ⟨64 * (h % 2) + y.val, by omega⟩) : EReal))
        = ∑ x : Fin 64, (X (ix3 r i ⟨h * 64 + x.val, by omega⟩) : EReal) * X (ix3 r j ⟨1024 + (h * 64 + x.val), by omega⟩) := by
      refine Finset.sum_congr rfl fun y _ => ?_
      rw [mul_comm, kwin_part X r jb hjb 1024 (by decide) a (h / 2) ha (by omega) k _ j hj]
      have key : ∀ (i j : Fin 4096) (c d : Fin 3072), i.val = j.val → c.val = d.val → X (ix3 r i c) = X (ix3 r j d) :=
        fun i j c d h h' => by rw [Fin.ext h, Fin.ext h']
      refine congrArg₂ (· * ·) (key _ _ _ _ ?_ ?_) (key _ _ _ _ rfl ?_)
      · show 1024 * jb + (128 * a + q.val) = i.val
        omega
      · show 0 + (128 * (h / 2) + (64 * (h % 2) + y.val)) = h * 64 + y.val
        omega
      · show 1024 + (128 * (h / 2) + (64 * (h % 2) + y.val)) = 1024 + (h * 64 + y.val)
        omega
    refine (congrArg₂ (· + ·) es (e1.trans (bias_at _ _))).trans ?_
    refine Eq.trans ?_ (congrArg₂ (fun (b : BitVec 1) (z : EReal × EReal) => Scalar.select b z.1 z.2) e2.symm
      (congrArg₂ Prod.mk (congrArg₂ (fun (s d : EReal) => s - Ideal.ofBits .f32 (Cert.AttnRefIdeal.lit0 ⟨h, hh⟩) * d) rfl e3.symm) rfl))
    show _ + (if k.val ≤ q.val + 128 ∧ q.val ≤ k.val then _ else _) = _
    by_cases hw : k.val ≤ q.val + 128 ∧ q.val ≤ k.val
    · rw [if_pos hw, if_pos (by omega), keep]
      have ef : far (q.val + 128) k.val = far i.val j.val := by
        unfold far
        congr 2
        omega
      show _ + (0 - Ideal.ofBits .f32 (Cert.AttnRefIdeal.lit0 ⟨h, hh⟩) * far (q.val + 128) k.val : EReal) = _
      rw [ef, zero_sub]
      rfl
    · rw [if_neg hw, if_neg (by omega), mask, EReal.add_bot]
  · show blockScores _ _ _ _ _ _ _ _ _ _ = _
    unfold blockScores
    have ef : first jb a = 0 := by
      unfold first
      split <;> omega
    have e1 : bsub (tables (F := Ideal)) (first jb a) h (first_lt jb a) hh (ix4 0 0 k q) = (⊥ : EReal) := by
      rw [bsub_tables, if_pos ef, bias0_at]
      refine if_pos ?_
      show k.val < 128
      omega
    rw [scores_at]
    refine (congrArg (fun z : EReal => _ + z) e1).trans ?_
    exact EReal.add_bot _
  · have hjl := j.isLt
    have hil := i.isLt
    show scoresR (F := Ideal) X _ = _
    rw [scoresR_at]
    have e2 := in_window i.val j.val (by omega) (by omega)
    refine (congrArg (fun b : BitVec 1 => Scalar.select b _ _) (e2.trans (if_neg (by omega)))).trans ?_
    exact (mask _ _).trans word_bot

/-- Over real arguments a score of the reference is real in the window and minus infinity outside. -/
theorem score_form (hX : ∀ i, ∃ x : ℝ, X i = (x : EReal)) (h : Fin 16) (i j : Fin 4096) :
    ∃ s : ℝ, scoresR (F := Ideal) X (ix4 r h i j) = if j.val ≤ i.val ∧ i.val ≤ j.val + 128 then (s : EReal) else (⊥ : EReal) := by
  have hjl := j.isLt
  have hil := i.isLt
  choose x hx using hX
  obtain ⟨c, hc⟩ := slope_real h
  rw [scoresR_at]
  have e2 := in_window i.val j.val (by omega) (by omega)
  have e3 := dist_at i.val j.val (by omega) (by omega)
  refine ⟨(∑ y : Fin 64, x (ix3 r i ⟨h.val * 64 + y.val, by omega⟩) * x (ix3 r j ⟨1024 + (h.val * 64 + y.val), by omega⟩))
    - c * ((((i.val : ℤ) - j.val) * 4 : ℤ) : ℝ), ?_⟩
  refine (congrArg (fun b : BitVec 1 => Scalar.select b _ _) e2).trans ?_
  by_cases hw : j.val ≤ i.val ∧ i.val ≤ j.val + 128
  · rw [if_pos hw, if_pos hw, EReal.coe_sub, EReal.coe_mul, coe_sum]
    refine Eq.trans (show Scalar.select (1#1) _ _ = _ from rfl) (congrArg₂ (· - ·) (Finset.sum_congr rfl fun y _ => ?_) (congrArg₂ (· * ·) hc e3))
    rw [EReal.coe_mul]
    exact congrArg₂ (· * ·) (hx _) (hx _)
  · rw [if_neg hw, if_neg hw]
    exact word_bot

theorem score_top (hX : ∀ i, ∃ x : ℝ, X i = (x : EReal)) (h : Fin 16) (i j : Fin 4096) : scoresR (F := Ideal) X (ix4 r h i j) ≠ (⊤ : EReal) := by
  obtain ⟨s, hs⟩ := score_form X r hX h i j
  rw [hs]
  split
  · exact EReal.coe_ne_top _
  · exact bot_ne_top

theorem score_own (hX : ∀ i, ∃ x : ℝ, X i = (x : EReal)) (h : Fin 16) (i : Fin 4096) : scoresR (F := Ideal) X (ix4 r h i i) ≠ (⊥ : EReal) := by
  obtain ⟨s, hs⟩ := score_form X r hX h i i
  rw [hs, if_pos ⟨le_rfl, by omega⟩]
  exact EReal.coe_ne_bot _

/-- The greatest score of a window, and the sum of its weights, are the reference's. -/
theorem win_top (r : Fin 4) (s : FVec Ideal S256x128 .f32) (S : FVec Ideal Cert.AttnRefIdeal.S4x16x4096x4096 .f32) (A : ℕ) (hA : A < 32) (q : Fin 128) (h : Fin 16) (i : Fin 4096)
    (w : InWin A (fun j => S (ix4 r h i j)) (fun k => s (ix2 k q))) :
    top s (ix2 0 q) = Finset.univ.fold max (⊥ : EReal) (fun j => S (ix4 r h i j)) := by
  rw [top_at, word_bot]
  exact max_window A hA _ _ w

theorem ref_top (r : Fin 4) (S : FVec Ideal Cert.AttnRefIdeal.S4x16x4096x4096 .f32) (h : Fin 16) (i : Fin 4096) :
    topR S (ix3 r h i) = Finset.univ.fold max (⊥ : EReal) (fun j => S (ix4 r h i j)) := by
  rw [topR_at, word_bot]
  rfl

theorem ref_weights (r : Fin 4) (S : FVec Ideal Cert.AttnRefIdeal.S4x16x4096x4096 .f32) (h : Fin 16) (i j : Fin 4096) :
    weightsR S (ix4 r h i j) = Ideal.exp2 ((S (ix4 r h i j) : EReal) - Finset.univ.fold max (⊥ : EReal) (fun j => S (ix4 r h i j))) := by
  rw [weightsR_at, pow_two]
  exact congrArg (fun z : EReal => Ideal.exp2 (_ - z)) (ref_top r S h i)

theorem ref_total (r : Fin 4) (S : FVec Ideal Cert.AttnRefIdeal.S4x16x4096x4096 .f32) (h : Fin 16) (i : Fin 4096) :
    totalR S (ix3 r h i) = ∑ j, Ideal.exp2 ((S (ix4 r h i j) : EReal) - Finset.univ.fold max (⊥ : EReal) (fun j => S (ix4 r h i j))) := by
  rw [totalR_at]
  exact Finset.sum_congr rfl fun j _ => ref_weights r S h i j

theorem win_weights (r : Fin 4) (s : FVec Ideal S256x128 .f32) (S : FVec Ideal Cert.AttnRefIdeal.S4x16x4096x4096 .f32) (A : ℕ) (hA : A < 32) (q : Fin 128) (h : Fin 16) (i : Fin 4096)
    (w : InWin A (fun j => S (ix4 r h i j)) (fun k => s (ix2 k q))) (k : Fin 256) :
    weights s (ix2 k q) = Ideal.exp2 ((s (ix2 k q) : EReal) - Finset.univ.fold max (⊥ : EReal) (fun j => S (ix4 r h i j))) := by
  rw [weights_at]
  exact congrArg (fun z : EReal => Ideal.exp2 (_ - z)) (win_top r s S A hA q h i w)

theorem win_total (r : Fin 4) (s : FVec Ideal S256x128 .f32) (S : FVec Ideal Cert.AttnRefIdeal.S4x16x4096x4096 .f32) (A : ℕ) (hA : A < 32) (q : Fin 128) (h : Fin 16) (i : Fin 4096)
    (w : InWin A (fun j => S (ix4 r h i j)) (fun k => s (ix2 k q))) :
    total s (ix2 0 q) = ∑ k, Ideal.exp2 ((s (ix2 k q) : EReal) - Finset.univ.fold max (⊥ : EReal) (fun j => S (ix4 r h i j))) := by
  rw [total_at]
  exact Finset.sum_congr rfl fun k _ => win_weights r s S A hA q h i w k

/-- A head's logarithm is the reference's. -/
theorem head_lse (r : Fin 4) (s : FVec Ideal S256x128 .f32) (S : FVec Ideal Cert.AttnRefIdeal.S4x16x4096x4096 .f32) (A : ℕ) (hA : A < 32) (q : Fin 128) (h : Fin 16) (i : Fin 4096)
    (w : InWin A (fun j => S (ix4 r h i j)) (fun k => s (ix2 k q))) :
    headLse s (ix2 0 q) = rowsR S (ix3 r i h) := by
  rw [headLse_at, rowsR_at]
  refine congrArg₂ (fun t l : EReal => t + Ideal.log l * _) ((win_top r s S A hA q h i w).trans (ref_top r S h i).symm) ?_
  refine ((win_total r s S A hA q h i w).trans ?_).trans (ref_total r S h i).symm
  exact total_window A hA _ _ w _

/-- A head's weighted sum of values is the reference's. -/
theorem head_out (hX : ∀ i, ∃ x : ℝ, X i = (x : EReal)) (a : ℕ) (ha : a < 8) (b : ℕ) (hb : b < 8) (h : Fin 16) (q : Fin 128) (i : Fin 4096)
    (x : Fin 128) (hx : (128 * b + x.val) / 64 = h.val) (s : FVec Ideal S256x128 .f32)
    (w : InWin (8 * jb + a) (fun j => scoresR (F := Ideal) X (ix4 r h i j)) (fun k => s (ix2 k q))) :
    headOut (before (part X r jb hjb 2048 (by decide)) (prev X r jb hjb 2048 (by decide)) a b ha hb) (sub (part X r jb hjb 2048 (by decide)) a b ha hb)
      s (ix2 x q) = outR (F := Ideal) X (scoresR (F := Ideal) X) (ix3 r i ⟨128 * b + x.val, by omega⟩) := by
  have hA : 8 * jb + a < 32 := by omega
  rw [headOut_at, outR_at]
  have e := out_window (8 * jb + a) hA _ _ w (score_top X r hX h i) i (score_own X r hX h i)
    (fun j => X (ix3 r j ⟨2048 + (128 * b + x.val), by omega⟩)) (fun j => hX _)
    (fun k => kwin (before (part X r jb hjb 2048 (by decide)) (prev X r jb hjb 2048 (by decide)) a b ha hb) (sub (part X r jb hjb 2048 (by decide)) a b ha hb) (ix2 k x))
    (fun k j hj => kwin_part X r jb hjb 2048 (by decide) a b ha hb k x j hj)
  have eh : (⟨(128 * b + x.val) / 64, by omega⟩ : Fin 16) = h := Fin.ext hx
  refine (congrArg₂ (fun n d : EReal => n * Ideal.div 1 d) (Finset.sum_congr rfl fun k _ => congrArg (fun z : EReal => _ * z)
    (win_weights r s _ _ hA q h i w k)) (win_total r s _ _ hA q h i w)).trans (e.trans ?_)
  refine Finset.sum_congr rfl fun j _ => congrArg₂ (fun n d : EReal => _ * Ideal.div n d) ?_ ?_
  · refine (ref_weights r _ h i j).symm.trans ?_
    exact congrArg (fun g => weightsR (scoresR (F := Ideal) X) (ix4 r g i j)) eh.symm
  · refine (ref_total r _ h i).symm.trans ?_
    exact congrArg (fun g => totalR (scoresR (F := Ideal) X) (ix3 r g i)) eh.symm

/-- The scores of a head, by its pair and its half. -/
theorem blockScores_pair (x0 : Vec Ideal S1x1024x1024 .bf16) (x1 : Vec Ideal S1x128x1024 .bf16) (x2 : Vec Ideal S1x1024x1024 .bf16)
    (T : Vec Ideal S2x16x256x128 .f32) (a b h : ℕ) (ha : a < 8) (hb : b < 8) (hh : h < 16) (e : h / 2 = b) (keep : IVec S1x128 1)
    (ek : (if h % 2 = 0 then half0 else half1) = keep) :
    scores keep (sub x0 a b ha hb) (before x2 x1 a b ha hb) (sub x2 a b ha hb) (bsub T (first jb a) h (first_lt _ _) hh)
      = blockScores jb x0 x1 x2 T a h ha hh := by
  subst e ek
  rfl

/-- A lane of a pair's half, from the half's scores, is the reference's entry. -/
theorem half_out (hX : ∀ i, ∃ x : ℝ, X i = (x : EReal)) (a : ℕ) (ha : a < 8) (b : ℕ) (hb : b < 8) (h : ℕ) (hh : h < 16) (e : h / 2 = b)
    (keep : IVec S1x128 1) (ek : (if h % 2 = 0 then half0 else half1) = keep)
    (q : Fin 128) (i : Fin 4096) (hi : i.val = 128 * (8 * jb + a) + q.val) (x : Fin 128) (hx : (128 * b + x.val) / 64 = h) :
    headOut (before (part X r jb hjb 2048 (by decide)) (prev X r jb hjb 2048 (by decide)) a b ha hb) (sub (part X r jb hjb 2048 (by decide)) a b ha hb)
      (scores keep (sub (part X r jb hjb 0 (by decide)) a b ha hb)
        (before (part X r jb hjb 1024 (by decide)) (prev X r jb hjb 1024 (by decide)) a b ha hb) (sub (part X r jb hjb 1024 (by decide)) a b ha hb)
        (bsub tables (first jb a) h (first_lt _ _) hh)) (ix2 x q)
      = outR (F := Ideal) X (scoresR (F := Ideal) X) (ix3 r i ⟨128 * b + x.val, by omega⟩) := by
  rw [blockScores_pair jb _ _ _ _ a b h ha hb hh e keep ek]
  exact head_out X r jb hjb hX a ha b hb ⟨h, hh⟩ q i x hx _ (win X r jb hjb a ha h hh q i hi)

/-- A pair's stored block is the reference's. -/
theorem pair_out (hX : ∀ i, ∃ x : ℝ, X i = (x : EReal)) (a : ℕ) (ha : a < 8) (b : ℕ) (hb : b < 8)
    (q : Fin 128) (i : Fin 4096) (hi : i.val = 128 * (8 * jb + a) + q.val) (x : Fin 128) :
    blockOut jb (part X r jb hjb 0 (by decide)) (prev X r jb hjb 1024 (by decide)) (part X r jb hjb 1024 (by decide))
      (prev X r jb hjb 2048 (by decide)) (part X r jb hjb 2048 (by decide)) tables a b ha hb (ix3 0 q x)
      = outR (F := Ideal) X (scoresR (F := Ideal) X) (ix3 r i ⟨128 * b + x.val, by omega⟩) := by
  unfold blockOut
  rw [pairOut_at]
  by_cases hl : x.val < 64
  · refine (if_pos hl).trans ?_
    exact half_out X r jb hjb hX a ha b hb (2 * b) (by omega) (by omega) half0 (if_pos (by omega)) q i hi x (by omega)
  · refine (if_neg hl).trans ?_
    exact half_out X r jb hjb hX a ha b hb (2 * b + 1) (by omega) (by omega) half1 (if_neg (by omega)) q i hi x (by omega)

/-- The whole result of a grid point is the reference's block. -/
theorem point_out (hX : ∀ i, ∃ x : ℝ, X i = (x : EReal)) (y : S1x1024x1024.Idx) :
    pointOut jb (part X r jb hjb 0 (by decide)) (prev X r jb hjb 1024 (by decide)) (part X r jb hjb 1024 (by decide))
      (prev X r jb hjb 2048 (by decide)) (part X r jb hjb 2048 (by decide)) tables y
      = outR (F := Ideal) X (scoresR (F := Ideal) X) (ix3 r ⟨1024 * jb + (y 1).val, by idx_bounds y; omega⟩ ⟨(y 2).val, by idx_bounds y; omega⟩) := by
  idx_bounds y
  unfold pointOut
  have hy := Nat.div_add_mod (y 2).val 128
  have col : ∀ (c d : Fin 1024), c.val = d.val →
      outR (F := Ideal) X (scoresR (F := Ideal) X) (ix3 r ⟨1024 * jb + (y 1).val, by omega⟩ c)
        = outR (F := Ideal) X (scoresR (F := Ideal) X) (ix3 r ⟨1024 * jb + (y 1).val, by omega⟩ d) := fun c d e => by rw [Fin.ext e]
  refine Eq.trans ?_ (col ⟨128 * ((y 2).val / 128) + (y 2).val % 128, by omega⟩ _ hy)
  exact pair_out X r jb hjb hX _ _ _ _ _ ⟨1024 * jb + (y 1).val, by omega⟩
    (by show 1024 * jb + (y 1).val = 128 * (8 * jb + (y 1).val / 128) + (y 1).val % 128; omega) _

open Cert.AttnRefIdeal.Layer (lseR lseR_eq pad_at) in
/-- The whole second result of a grid point is the reference's block. -/
theorem point_lse (y : S1x1024x128.Idx) :
    pointLse jb (part X r jb hjb 0 (by decide)) (prev X r jb hjb 1024 (by decide)) (part X r jb hjb 1024 (by decide)) tables y
      = lseR (F := Ideal) (scoresR (F := Ideal) X) (ix3 r ⟨1024 * jb + (y 1).val, by idx_bounds y; omega⟩ ⟨(y 2).val, by idx_bounds y; omega⟩) := by
  idx_bounds y
  unfold pointLse
  rw [stackLse_at, lseR_eq, pad_at]
  have ha : (y 1).val / 128 < 8 := by omega
  by_cases hl : (y 2).val < 16
  · refine (dif_pos hl).trans (Eq.trans ?_ (dif_pos hl).symm)
    exact head_lse r _ _ (8 * jb + (y 1).val / 128) (by omega) ⟨(y 1).val % 128, by omega⟩ ⟨(y 2).val, hl⟩ ⟨1024 * jb + (y 1).val, by omega⟩
      (win X r jb hjb ((y 1).val / 128) ha (y 2).val hl ⟨(y 1).val % 128, by omega⟩ ⟨1024 * jb + (y 1).val, by omega⟩
        (by show 1024 * jb + (y 1).val = 128 * (8 * jb + (y 1).val / 128) + (y 1).val % 128; omega))
  · refine (dif_neg hl).trans (Eq.trans ?_ (dif_neg hl).symm)
    show (0 : EReal) = (((0#32 : BitVec 32).toInt : ℝ) : EReal)
    simp

end Cert.AttnIdeal.Layer
end
-- ==== Proof.Layer.AttnValue.lean ====
module

public import proofs.«01_k».proof.Defs
public import proofs.«01_k».proof.Proof.Gen.AttnIdeal.Value
public import proofs.«01_k».proof.Proof.Gen.Pre_finite
public import proofs.«01_k».proof.Proof.Layer.AttnStores
public import proofs.«01_k».proof.Proof.Layer.AttnLses
public import proofs.«01_k».proof.Proof.Layer.AttnTable
public import proofs.«01_k».proof.Proof.Layer.AttnWindow
public import Idealize.ShloMosaic.Lib.ReduceAll

/-! The attention: over arguments that are real numbers, the kernel's two results are the reference's. -/

@[expose] public section

set_option maxRecDepth 16384

noncomputable section

namespace Cert.AttnIdeal.Layer

open Cert.AttnIdeal Cert.AttnIdeal.Gen Idealize.ShloMosaic Idealize.ShloMosaic.TcCoe Idealize.SL.Sem
open Idealize.ShloMosaic.Pipeline (Dat)
open Cert.AttnRefIdeal.Layer (scoresR outR lseR res_out res_lse)

variable (m : (ℓ : Loc nD τ sig) → Buf (Elt Ideal) ℓ) (ρ : Dev nD → PrngReg)

/-- The grid's index maps in closed form. -/
theorem idx : ∀ t : Fin cfg0.N,
    win0_0.index t = ![(grid0.coords t 0).val, (grid0.coords t 1).val, 0]
      ∧ win0_1.index t = ![(grid0.coords t 0).val, 8 * (grid0.coords t 1).val - 1, 1]
      ∧ win0_2.index t = ![(grid0.coords t 0).val, (grid0.coords t 1).val, 1]
      ∧ win0_3.index t = ![(grid0.coords t 0).val, 8 * (grid0.coords t 1).val - 1, 2]
      ∧ win0_4.index t = ![(grid0.coords t 0).val, (grid0.coords t 1).val, 2]
      ∧ win0_5.index t = ![(grid0.coords t 0).val, (grid0.coords t 1).val, 0]
      ∧ win0_6.index t = ![(grid0.coords t 0).val, (grid0.coords t 1).val, 0] :=
  (by decide +kernel : ∀ t : Fin grid0.N, _)

/-- The argument: queries, keys and values side by side. -/
def arg (c : Dev nD) : S4x4096x3072.Idx → EReal := m ((c : Thread nD τ).loc main_arg0)

theorem blk0 (c : Dev nD) (t : Fin cfg0.N) :
    iblk m c 0 t = part (arg m c) (grid0.coords t 0) (grid0.coords t 1).val (grid0.coords t 1).isLt 0 (by decide) := by
  obtain ⟨e0, e1, e2, e3, e4, e5, e6⟩ := idx t
  funext y
  idx_bounds y
  unfold part arg
  blk_simp [iblk, V_main_arg0]
  blk_ext [e0]

theorem blk1 (c : Dev nD) (t : Fin cfg0.N) :
    iblk m c 1 t = prev (arg m c) (grid0.coords t 0) (grid0.coords t 1).val (grid0.coords t 1).isLt 1024 (by decide) := by
  obtain ⟨e0, e1, e2, e3, e4, e5, e6⟩ := idx t
  funext y
  idx_bounds y
  unfold prev arg
  blk_simp [iblk, V_main_arg0]
  blk_ext [e1]

theorem blk2 (c : Dev nD) (t : Fin cfg0.N) :
    iblk m c 2 t = part (arg m c) (grid0.coords t 0) (grid0.coords t 1).val (grid0.coords t 1).isLt 1024 (by decide) := by
  obtain ⟨e0, e1, e2, e3, e4, e5, e6⟩ := idx t
  funext y
  idx_bounds y
  unfold part arg
  blk_simp [iblk, V_main_arg0]
  blk_ext [e2]

theorem blk3 (c : Dev nD) (t : Fin cfg0.N) :
    iblk m c 3 t = prev (arg m c) (grid0.coords t 0) (grid0.coords t 1).val (grid0.coords t 1).isLt 2048 (by decide) := by
  obtain ⟨e0, e1, e2, e3, e4, e5, e6⟩ := idx t
  funext y
  idx_bounds y
  unfold prev arg
  blk_simp [iblk, V_main_arg0]
  blk_ext [e3]

theorem blk4 (c : Dev nD) (t : Fin cfg0.N) :
    iblk m c 4 t = part (arg m c) (grid0.coords t 0) (grid0.coords t 1).val (grid0.coords t 1).isLt 2048 (by decide) := by
  obtain ⟨e0, e1, e2, e3, e4, e5, e6⟩ := idx t
  funext y
  idx_bounds y
  unfold part arg
  blk_simp [iblk, V_main_arg0]
  blk_ext [e4]

/-- Every point leaves the tables in the scratch. -/
theorem scratch (c : Dev nD) : ∀ (n : ℕ) (hn : n < cfg0.N), (outsAt0 m c n hn).2.2 = tables := by
  intro n
  induction n with
  | zero =>
    intro hn
    refine (congrArg (fun o => o.2.2) (outsAt0_A m c ⟨0, hn⟩ (Nat.zero_mod _))).trans ?_
    exact tables_held c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩)
      scM0_0 (Memref.isWhole_whole _) ((hcond0_0 ⟨0, hn⟩).mpr (Nat.zero_mod _)) (iblk m c 0 ⟨0, hn⟩) (iblk m c 1 ⟨0, hn⟩) (iblk m c 2 ⟨0, hn⟩)
      (iblk m c 3 ⟨0, hn⟩) (iblk m c 4 ⟨0, hn⟩) scM0_0
  | succ n ih =>
    intro hn
    have hN : n + 1 < 16 := hn
    rw [outsAt0_B m c ⟨n + 1, hn⟩ (by show ¬ (n + 1) % 16 = 0; omega)]
    exact ih _

/-- What a point leaves of the first result. -/
theorem outs5 (c : Dev nD) (t : Fin cfg0.N) : (outsAt0 m c t.val t.isLt).1
    = pointOut (grid0.coords t 1).val (iblk m c 0 t) (iblk m c 1 t) (iblk m c 2 t) (iblk m c 3 t) (iblk m c 4 t) tables := by
  by_cases h0 : t.val % 16 = 0
  · rw [outsAt0_A m c t h0]
    dsimp only
    unfold out0_A_5
    rw [View.read_writes_junk_eq_canon]
    funext y
    refine View.canon_apply_of_pieces _ _ (stores_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
      (iblk m c 0 t) (iblk m c 1 t) (iblk m c 2 t) (iblk m c 3 t) (iblk m c 4 t) tables ?_) y (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) _ _ _ _ _ y)
    exact tables_held c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
      (iblk m c 0 t) (iblk m c 1 t) (iblk m c 2 t) (iblk m c 3 t) (iblk m c 4 t) _
  · rw [outsAt0_B m c t h0, scratch]
    dsimp only
    unfold out0_B_5
    rw [View.read_writes_junk_eq_canon]
    funext y
    exact View.canon_apply_of_pieces _ _ (stores_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h))
      (iblk m c 0 t) (iblk m c 1 t) (iblk m c 2 t) (iblk m c 3 t) (iblk m c 4 t) tables) y (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) _ _ _ _ _ _ y)

/-- What a point leaves of the second result. -/
theorem outs6 (c : Dev nD) (t : Fin cfg0.N) : (outsAt0 m c t.val t.isLt).2.1
    = pointLse (grid0.coords t 1).val (iblk m c 0 t) (iblk m c 1 t) (iblk m c 2 t) tables := by
  by_cases h0 : t.val % 16 = 0
  · rw [outsAt0_A m c t h0]
    dsimp only
    unfold out0_A_6
    rw [View.read_writes_junk_eq_canon]
    funext y
    refine View.canon_apply_of_pieces _ _ (lses_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
      (iblk m c 0 t) (iblk m c 1 t) (iblk m c 2 t) (iblk m c 3 t) (iblk m c 4 t) tables ?_) y (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) _ _ _ _ _ y)
    exact tables_held c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
      (iblk m c 0 t) (iblk m c 1 t) (iblk m c 2 t) (iblk m c 3 t) (iblk m c 4 t) _
  · rw [outsAt0_B m c t h0, scratch]
    dsimp only
    unfold out0_B_6
    rw [View.read_writes_junk_eq_canon]
    funext y
    exact View.canon_apply_of_pieces _ _ (lses_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h))
      (iblk m c 0 t) (iblk m c 1 t) (iblk m c 2 t) (iblk m c 3 t) (iblk m c 4 t) tables) y (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) _ _ _ _ _ _ y)

/-- After the run the first array is the reference's first result. -/
theorem finalOut (c : Dev nD) (hX : ∀ i, ∃ x : ℝ, arg m c i = (x : EReal)) :
    (dats m 0 c).arrAt 5 cfg0.N = outR (F := Ideal) (arg m c) (scoresR (F := Ideal) (arg m c)) := by
  refine (dats m 0 c).arrAt_eq_of_covers 5 _ (by decide +kernel) fun t hf y => ?_
  blk_simp
  rw [after0_5, outs5, blk0, blk1, blk2, blk3, blk4]
  obtain ⟨e0, e1, e2, e3, e4, e5, e6⟩ := idx t
  idx_bounds y
  refine (point_out (arg m c) (grid0.coords t 0) (grid0.coords t 1).val (grid0.coords t 1).isLt hX _).trans ?_
  blk_ext [e5]

/-- And the second its second. -/
theorem finalLse (c : Dev nD) :
    (dats m 0 c).arrAt 6 cfg0.N = lseR (F := Ideal) (scoresR (F := Ideal) (arg m c)) := by
  refine (dats m 0 c).arrAt_eq_of_covers 6 _ (by decide +kernel) fun t hf y => ?_
  blk_simp
  rw [after0_6, outs6, blk0, blk1, blk2]
  obtain ⟨e0, e1, e2, e3, e4, e5, e6⟩ := idx t
  idx_bounds y
  refine (point_lse (arg m c) (grid0.coords t 0) (grid0.coords t 1).val (grid0.coords t 1).isLt _).trans ?_
  blk_ext [e6]

/-- A value whose absolute value is below infinity is a real number. -/
theorem real_of_lt (x : EReal) (h : max x (-x) < ⊤) : ∃ r : ℝ, x = (r : EReal) := by
  induction x with
  | bot => simp at h
  | top => simp at h
  | coe r => exact ⟨r, rfl⟩

instance : Subsingleton Cert.Pre_finite.S_.Idx := ⟨fun a b => funext fun d => d.elim0⟩

/-- The precondition: every entry of the argument is a real number. -/
theorem real_of_pre (hP : Cert.Pre_AttnIdeal_finite m) (c : Dev nD) (i : S4x4096x3072.Idx) : ∃ x : ℝ, arg m c i = (x : EReal) := by
  have h := Host.reduce_andi_all _ _ _ _ _ (congrFun (hP c) (fun d => d.elim0)) i
  have h' : Ideal.cmp .olt (max (arg m c i) (-(arg m c i))) (Ideal.ofBits .f32 0x7F800000#32) = 1#1 := h
  rw [word_top] at h'
  exact real_of_lt _ ((Ideal.cmp_olt_eq_one _ _).1 h')

/-- Over arguments that are real numbers the kernel and the reference leave the same two results. -/
theorem alg : Cert.algebraic_AttnIdeal_AttnRefIdeal_pre_finite := by
  intro m g m' g' hP hA
  refine ⟨fun c => outR (F := Ideal) (arg m c) (scoresR (F := Ideal) (arg m c)), fun c => lseR (F := Ideal) (scoresR (F := Ideal) (arg m c)), ?_, ?_⟩
  · run_from Cert.AttnIdeal.Gen.run_main m g
    · rw [finalOut m _ (real_of_pre m hP _)]
    · rw [finalLse]
  · refine (θ_run Cert.AttnRefIdeal.defs _ _).mono (fun r h c => ⟨(h c).1.trans ?_, (h c).2.1.trans ?_, (h c).2.2⟩) (Cert.AttnRefIdeal.Value.run m' g')
    · rw [res_out, hA]
      rfl
    · rw [res_lse, hA]
      rfl

end Cert.AttnIdeal.Layer
end
-- ==== Proof.Layer.ExpertsFrame.lean ====
module

public import proofs.«01_k».proof.Proof.Gen.ExpertsIdeal.Launch
public import proofs.«01_k».proof.Proof.Gen.ExpertsIdeal.Skeleton
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.Value
public import Idealize.ShloMosaic.Lib.Pointwise
public import Idealize.ShloMosaic.Lib.IndicatorCount
public import Idealize.ShloMosaic.Lib.WholeRead
public import Idealize.ShloMosaic.Lib.Tactic.CleanTypes
public import Idealize.ShloMosaic.Lib.Pipeline.ValueKit
public import Idealize.ShloMosaic.Lib.Pipeline.ReadBack

/-! The experts' kernel runs: the host's lines leave a table of expert numbers, all of them below sixteen, so every
block the table picks lies inside the weights; the body runs at every grid point; the arguments are untouched. -/

@[expose] public section

set_option maxRecDepth 16384

noncomputable section

namespace Cert.ExpertsIdeal.Layer

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's lines -/

/-- The host's lines before the launch, stretch by stretch. -/
abbrev lines : List (List (HloOp τ sig (Elt F))) := [hostOps0, hostOps0_1, hostOps0_2, hostOps0_3, hostOps0_4]

/-- What the buffers hold when the launch is reached. -/
abbrev V (c : Dev nD) (b : Ref sig .tc) : Buf (Elt F) ((c : Thread nD τ).loc b) :=
  StableHlo.after lines.flatten (fun b => m (c, b)) b

theorem lines_sub : (lines (F := F)).Forall fun ops => ops.Forall fun op => op.bufs ⊆ StableHlo.tcRefs τ sig :=
  ⟨hostOps0_sub, hostOps0_1_sub, hostOps0_2_sub, hostOps0_3_sub, hostOps0_4_sub⟩

theorem lines_fresh : (lines (F := F)).Forall fun ops => ops.Forall fun op => op.fresh = ∅ := by
  simp only [List.Forall]; repeat' constructor

/-- The lines run and the launch is reached with the buffers at `V`. -/
theorem hmain : Pipeline.HMainP (Ix := Unit) (Name := ℕ) (U := UR sig nD τ) (Lvl := ℕ) pcfgs 0 defs₀ Variants.none m (main (F := F)) (V m) :=
  Pipeline.hmainP_around pcfgs 0 defs₀ Variants.none m main lines [] lines_sub lines_fresh main_chain

theorem V_main_arg0 (c : Dev nD) : V m c main_arg0 = m ((c : Thread nD τ).loc main_arg0) := by
  simp only [V, lines, List.flatten_cons, List.flatten_nil, List.cons_append, List.nil_append, List.append_nil]
  entry_read
  rfl

/-- The experts' rows, rounded up to whole tiles of 256. -/
def padded (n : IVec S16 32) : IVec S16 32 :=
  have q := Host.divsi (subi (addi n (broadcastInDim S16 ![] bcast_S_S16 (constantI S_ 32 256#32))) (broadcastInDim S16 ![] bcast_S_S16 (constantI S_ 32 1#32)))
    (broadcastInDim S16 ![] bcast_S_S16 (constantI S_ 32 256#32))
  have r := Host.remsi (subi (addi n (broadcastInDim S16 ![] bcast_S_S16 (constantI S_ 32 256#32))) (broadcastInDim S16 ![] bcast_S_S16 (constantI S_ 32 1#32)))
    (broadcastInDim S16 ![] bcast_S_S16 (constantI S_ 32 256#32))
  have s := signi (subi (addi n (broadcastInDim S16 ![] bcast_S_S16 (constantI S_ 32 256#32))) (broadcastInDim S16 ![] bcast_S_S16 (constantI S_ 32 1#32)))
  muli (select (andi (cmpi .ne s (broadcastInDim S16 ![] bcast_S_S16 (signi (constantI S_ 32 256#32))))
      (cmpi .ne r (broadcastInDim S16 ![] bcast_S_S16 (constantI S_ 32 0#32))))
      (subi q (broadcastInDim S16 ![] bcast_S_S16 (constantI S_ 32 1#32))) q)
    (broadcastInDim S16 ![] bcast_S_S16 (constantI S_ 32 256#32))

/-- The row each expert's rows end at. -/
def ends (n : IVec S16 32) : IVec S16 32 :=
  Host.reduceWindow IntOp.addi ![16] ![1] ![15] ![0] (padded n)
    (broadcastInDim S_ ![] bcast_S_S_ (constantI S_ 32 0#32)) reduceWindows_S16_S16_w16s1p15_0 h_S_

/-- The expert of each tile: how many experts end at or before the tile's first row, fifteen at most. -/
def table (e : IVec S16 32) : IVec S144 32 :=
  minsi (Host.reduce IntOp.addi (extui 32
      (cmpi .sge
        (broadcastInDim S144x16 ![0, 1] bcast_S144x1_S144x16_0_1
          (broadcastInDim S144x1 ![0] bcast_S144_S144x1_0
            (muli (iotaInDim S144 32 0) (broadcastInDim S144 ![] bcast_S_S144 (constantI S_ 32 256#32)))))
        (broadcastInDim S144x16 ![0, 1] bcast_S1x16_S144x16_0_1 (broadcastInDim S1x16 ![1] bcast_S16_S1x16_1 e))) natLt_1_32)
      (constantI S_ 32 0#32) reducesTo_S144x16_S144_d1 h_S_)
    (broadcastInDim S144 ![] bcast_S_S144 (constantI S_ 32 15#32))

theorem V_main_v19 (c : Dev nD) : V m c main_v19 = table (ends (m (c, Proc.devRef .tc main_arg1))) := by
  simp only [V, lines, List.flatten_cons, List.flatten_nil, List.cons_append, List.nil_append, List.append_nil]
  entry_read
  simp only [StableHlo.TRef.toBuf, StableHlo.TRef.ofBuf, cast_eq]
  rfl

theorem V_main_v20 (c : Dev nD) : V m c main_v20 = shapeCast S294912x128 (m (c, Proc.devRef .tc main_arg0)) shapeCasts_S36864x1024_S294912x128 := by
  simp only [V, lines, List.flatten_cons, List.flatten_nil, List.cons_append, List.nil_append, List.append_nil]
  entry_read
  rfl

theorem table_le (e : IVec S16 32) (i : S144.Idx) : (table e i).toNat ≤ 15 := by
  unfold table
  idx_vars i
  pointwise
  rw [IndicatorCount.fold_addi_setWidth_eq_card]
  have h : (Finset.univ.filter fun x : Fin 16 => IntOp.cmpi .sge (IntOp.muli (BitVec.ofNat 32 i0.val) 256#32) (e (ix1 x)) = 1#1).card ≤ 16 := by
    simpa using Finset.card_filter_le (Finset.univ : Finset (Fin 16)) _
  generalize (Finset.univ.filter fun x : Fin 16 => IntOp.cmpi .sge (IntOp.muli (BitVec.ofNat 32 i0.val) 256#32) (e (ix1 x)) = 1#1).card = n at h ⊢
  interval_cases n <;> decide

/-! ## The blocks the table picks -/

/-- A grid point's place in the table. -/
def place (i : grid0.Coords) : S144.Idx := ix1 (show Fin 144 from i 0)

/-- The table's word at a grid point. -/
theorem at_eq (pf : pre0.Contents (Elt F)) (i : grid0.Coords) :
    pf.at 0 (Rect.unit (s := S144) (k0_off1 i) S1.size (k0_off1_inb i)) numel1_S1 = pf 0 (place i) := by
  unfold Pipeline.Prefetch.Contents.at
  refine congrArg (pf 0) ?_
  funext a
  apply Fin.ext
  fin_cases a
  have h := congrFun (k0_off1_eq i) 0
  show k0_off1 i 0 + 1 * 0 = (i 0).val
  rw [h]; rfl

theorem transform_1 (pf : pre0.Contents (Elt F)) (i : grid0.Coords) :
    cc0_transform_1 k0_off1_inb numel1_S1 pf i = ![0, (pf 0 (place i) : BitVec 32).toNat, 0, 0] := by
  rw [← at_eq pf i]; rfl

theorem transform_2 (pf : pre0.Contents (Elt F)) (i : grid0.Coords) :
    cc0_transform_2 k0_off1_inb numel1_S1 pf i = ![0, (pf 0 (place i) : BitVec 32).toNat, 0, 0] := by
  rw [← at_eq pf i]; rfl

theorem picks_1 : ∀ e : Fin 16, ∃ h : (∀ a, ((![0, e.val, 0, 0] : Fin 4 → Nat) a + 1) * S1x1x1024x512.size a ≤ S4x16x1024x512.size a),
    EltTy.bits .bf16 = 32 ∨ (Rect.block (s := S4x16x1024x512) S1x1x1024x512.size ![0, e.val, 0, 0] h).WholeWords (EltTy.packing .bf16) := by
  decide +kernel

theorem picks_2 : ∀ e : Fin 16, ∃ h : (∀ a, ((![0, e.val, 0, 0] : Fin 4 → Nat) a + 1) * S1x1x256x1024.size a ≤ S4x16x256x1024.size a),
    EltTy.bits .bf16 = 32 ∨ (Rect.block (s := S4x16x256x1024) S1x1x256x1024.size ![0, e.val, 0, 0] h).WholeWords (EltTy.packing .bf16) := by
  decide +kernel

/-- A table of expert numbers below sixteen picks blocks inside the weights. -/
theorem ok_of (pf : pre0.Contents (Elt F)) (h : ∀ j, (pf 0 j : BitVec 32).toNat ≤ 15) : ok0 pf := by
  unfold ok0
  refine ⟨fun i => ?_, fun i => ?_⟩
  · rw [transform_1]
    exact picks_1 ⟨(pf 0 (place i) : BitVec 32).toNat, Nat.lt_succ_of_le (h _)⟩
  · rw [transform_2]
    exact picks_2 ⟨(pf 0 (place i) : BitVec 32).toNat, Nat.lt_succ_of_le (h _)⟩

/-- The table's contents when the launch is reached. -/
def tab : pre0.Contents (Elt F) := fun k => V m 0 (pre0.ref k)

theorem tab_zero : tab m 0 = table (ends (m (0, Proc.devRef .tc main_arg1))) := V_main_v19 m 0

theorem tab_ok : ok0 (tab m) := ok_of _ fun j => by
  rw [tab_zero]; exact table_le _ j

/-- The pipeline at the table. -/
abbrev adm : (p : Fin 1) → (pcfgs (F := F) p).Adm := fun _ => ⟨tab m, tab_ok m⟩
abbrev cfgT : Pipeline.Cfg sig Λ₀ := cfg0 (F := F) (adm m 0)

/-! ## The body, run once on any staging buffers -/

/-- One staging buffer of the output, through which its contents are stated. -/
abbrev VO : View sig .tc .vmem S2048x128 .f32 := (Memref.whole cc0_stg3_0 : Memref sig .tc .vmem S2048x128 .f32).view

set_option maxHeartbeats 1000000 in
/-- The pieces the body stores in its output, with the proof that it runs and stores them. -/
noncomputable def bodyRun (c : Dev nD) (i : grid0.Coords) (arg1 : Memref sig .tc .smem S144 .i32) (harg1 : arg1.IsWhole) (arg2 : Memref sig .tc .vmem S2048x128 .f32) (harg2 : arg2.IsWhole) (arg3 : Memref sig .tc .vmem S1x1x1024x512 .bf16) (harg3 : arg3.IsWhole) (arg4 : Memref sig .tc .vmem S1x1x256x1024 .bf16) (harg4 : arg4.IsWhole) (arg5 : Memref sig .tc .vmem S2048x128 .f32) (harg5 : arg5.IsWhole)
    (x : Vec F S2048x128 .f32) (w : Vec F S1x1x1024x512 .bf16) (d : Vec F S1x1x256x1024 .bf16) :
    { L : List (View.Piece (Elt F) S2048x128 .f32) //
      ∀ (E : Set ℕ) (K : PUnit → sProp 𝕄),
        iprop(owns (c : Thread nD τ) arg2 fullShare x ∗ owns (c : Thread nD τ) arg3 fullShare w ∗ owns (c : Thread nD τ) arg4 fullShare d ∗ (∃ d, owns (c : Thread nD τ) arg5 fullShare d)
            ∗ (iprop(owns (c : Thread nD τ) arg2 fullShare x ∗ owns (c : Thread nD τ) arg3 fullShare w ∗ owns (c : Thread nD τ) arg4 fullShare d ∗ (∃ f, arg5.view.loc (c : Thread nD τ) ↦[arg5.view.set]{fullShare} arg5.view.writes (Elt F) f L)) -∗ K ⟨⟩))
          ⊢ wp frame (wpE (defs₀ (F := F)) Variants.none c none) E (cc0_moe_experts i arg1 harg1 arg2 harg2 arg3 harg3 arg4 harg4 arg5 harg5) K } := by
  refine ⟨?_, fun E K => ?run⟩
  case run =>
    simp only [cc0_moe_experts_eq_skeleton]; unfold cc0_moe_experts_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The rows of a block whose number leaves `k` modulo eight: columns `128k` to `128k + 127` of the tile. -/
def rows (x : Vec F S2048x128 .f32) (k : Fin 8) : Vec F S256x128 .f32 := fun j =>
  x (ix2 (⟨k.val + 8 * (j 0).val, by have : (j 0).val < 256 := (j 0).isLt; omega⟩ : Fin 2048) (show Fin 128 from j 1))

/-- The tile after the gated unit. -/
def hidden (x : Vec F S2048x128 .f32) (w : Vec F S1x1x1024x512 .bf16) : FVec F S256x256 .bf16 :=
  k0_pay10 (rows x 0) (rows x 1) (rows x 2) (rows x 3) (rows x 4) (rows x 5) (rows x 6) (rows x 7) w

/-- What the body stores, piece by piece, the last first. -/
def stored (h : FVec F S256x256 .bf16) (d : Vec F S1x1x256x1024 .bf16) : List (View.Piece (Elt F) S2048x128 .f32) :=
  [⟨⟨(⟨![7, 0], S256x128.size, ![8, 1], inb_S2048x128_S256x128_7_0_s_8_1⟩ : LoadRect S2048x128), spos_8_1⟩, k0_pay9 h d⟩,
    ⟨⟨(⟨![6, 0], S256x128.size, ![8, 1], inb_S2048x128_S256x128_6_0_s_8_1⟩ : LoadRect S2048x128), spos_8_1⟩, k0_pay8 h d⟩,
    ⟨⟨(⟨![5, 0], S256x128.size, ![8, 1], inb_S2048x128_S256x128_5_0_s_8_1⟩ : LoadRect S2048x128), spos_8_1⟩, k0_pay7 h d⟩,
    ⟨⟨(⟨![4, 0], S256x128.size, ![8, 1], inb_S2048x128_S256x128_4_0_s_8_1⟩ : LoadRect S2048x128), spos_8_1⟩, k0_pay6 h d⟩,
    ⟨⟨(⟨![3, 0], S256x128.size, ![8, 1], inb_S2048x128_S256x128_3_0_s_8_1⟩ : LoadRect S2048x128), spos_8_1⟩, k0_pay5 h d⟩,
    ⟨⟨(⟨![2, 0], S256x128.size, ![8, 1], inb_S2048x128_S256x128_2_0_s_8_1⟩ : LoadRect S2048x128), spos_8_1⟩, k0_pay4 h d⟩,
    ⟨⟨(⟨![1, 0], S256x128.size, ![8, 1], inb_S2048x128_S256x128_1_0_s_8_1⟩ : LoadRect S2048x128), spos_8_1⟩, k0_pay3 h d⟩,
    ⟨⟨(⟨![0, 0], S256x128.size, ![8, 1], inb_S2048x128_S256x128_0_0_s_8_1⟩ : LoadRect S2048x128), spos_8_1⟩, k0_pay2 h d⟩]

/-- The whole block the pieces make up. -/
def outBlock (h : FVec F S256x256 .bf16) (d : Vec F S1x1x256x1024 .bf16) : Vec F S2048x128 .f32 := fun y =>
  k0_pay1 h d (ix2 (⟨(y 0).val / 8, by have : (y 0).val < 2048 := (y 0).isLt; omega⟩ : Fin 256)
    (⟨(y 0).val % 8 * 128 + (y 1).val, by have : (y 1).val < 128 := (y 1).isLt; omega⟩ : Fin 1024))

theorem stored_pieces (h : FVec F S256x256 .bf16) (d : Vec F S1x1x256x1024 .bf16) : View.PiecesOf (outBlock h d) (stored h d) := by
  refine ⟨fun x => ?_, fun x => ?_, fun x => ?_, fun x => ?_, fun x => ?_, fun x => ?_, fun x => ?_, fun x => ?_, trivial⟩
  all_goals
    have h0 : (x 0).val < 256 := (x 0).isLt
    have h1 : (x 1).val < 128 := (x 1).isLt
    show k0_pay1 h d _ = k0_pay1 h d _
    refine congrArg (k0_pay1 h d) ?_
    funext a
    apply Fin.ext
    fin_cases a
    · show 0 + (x 0).val = (_ + 8 * (x 0).val) / 8
      simp
      try omega
    · show _ + (x 1).val = (_ + 8 * (x 0).val) % 8 * 128 + (0 + 1 * (x 1).val)
      simp
      try omega

theorem stored_cover (h : FVec F S256x256 .bf16) (d : Vec F S1x1x256x1024 .bf16) (y : S2048x128.Idx) :
    ∃ p ∈ stored h d, y ∈ p.1.set := by
  have h0 : (y 0).val < 2048 := (y 0).isLt
  have h1 : (y 1).val < 128 := (y 1).isLt
  have hl : 7 - (y 0).val % 8 < (stored h d).length := by show _ < 8; omega
  refine ⟨(stored h d)[7 - (y 0).val % 8], List.getElem_mem _, ?_⟩
  have hr : (y 0).val % 8 < 8 := Nat.mod_lt _ (by decide)
  generalize hk : (y 0).val % 8 = k at hr hl ⊢
  interval_cases k
  all_goals
    rw [LoadRect.mem_set]
    intro a
    fin_cases a
    · refine ⟨(y 0).val / 8, ?_, ?_⟩
      · show _ < 256; omega
      · have e := Nat.mod_add_div (y 0).val 8
        rw [hk] at e
        exact e.symm
    · exact ⟨(y 1).val, h1, by show (y 1).val = 0 + 1 * (y 1).val; omega⟩

theorem bodyRun_pieces (c : Dev nD) (i : grid0.Coords) (arg1 : Memref sig .tc .smem S144 .i32) (harg1 : arg1.IsWhole) (arg2 : Memref sig .tc .vmem S2048x128 .f32) (harg2 : arg2.IsWhole) (arg3 : Memref sig .tc .vmem S1x1x1024x512 .bf16) (harg3 : arg3.IsWhole) (arg4 : Memref sig .tc .vmem S1x1x256x1024 .bf16) (harg4 : arg4.IsWhole) (arg5 : Memref sig .tc .vmem S2048x128 .f32) (harg5 : arg5.IsWhole)
    (x : Vec F S2048x128 .f32) (w : Vec F S1x1x1024x512 .bf16) (d : Vec F S1x1x256x1024 .bf16) :
    (bodyRun c i arg1 harg1 arg2 harg2 arg3 harg3 arg4 harg4 arg5 harg5 x w d).1 = stored (hidden x w) d := by
  have hd : ∀ B, View.readAt (Elt F) arg4.view (Rect.unit (s := S1x1x256x1024) ![0, 0, 0, 0] ![1, 1, 256, 1024] B).toLoadRect (harg4.unread d) = d := fun B => by
    funext j
    rw [harg4.readAt_unread]
    refine congrArg d ?_
    funext a
    apply Fin.ext
    show (![0, 0, 0, 0] : Fin 4 → Nat) a + 1 * (j a).val = (j a).val
    fin_cases a <;> simp
  have hw : ∀ B, View.readAt (Elt F) arg3.view (Rect.unit (s := S1x1x1024x512) ![0, 0, 0, 0] ![1, 1, 1024, 512] B).toLoadRect (harg3.unread w) = w := fun B => by
    funext j
    rw [harg3.readAt_unread]
    refine congrArg w ?_
    funext a
    apply Fin.ext
    show (![0, 0, 0, 0] : Fin 4 → Nat) a + 1 * (j a).val = (j a).val
    fin_cases a <;> simp
  have hx : ∀ (k : Fin 8) B, View.readAt (Elt F) arg2.view (⟨![k.val, 0], ![256, 128], ![8, 1], B⟩ : LoadRect S2048x128) (harg2.unread x) = rows x k := fun k B => by
    funext j
    rw [harg2.readAt_unread]
    refine congrArg x ?_
    funext a
    apply Fin.ext
    fin_cases a
    · rfl
    · show 0 + 1 * (j 1).val = (j 1).val; omega
  have e0 : View.readAt (Elt F) arg2.view (⟨![0, 0], ![256, 128], ![8, 1], inb_S2048x128_S256x128_0_0_s_8_1⟩ : LoadRect S2048x128) (harg2.unread x) = rows x 0 := hx 0 _
  have e1 : View.readAt (Elt F) arg2.view (⟨![1, 0], ![256, 128], ![8, 1], inb_S2048x128_S256x128_1_0_s_8_1⟩ : LoadRect S2048x128) (harg2.unread x) = rows x 1 := hx 1 _
  have e2 : View.readAt (Elt F) arg2.view (⟨![2, 0], ![256, 128], ![8, 1], inb_S2048x128_S256x128_2_0_s_8_1⟩ : LoadRect S2048x128) (harg2.unread x) = rows x 2 := hx 2 _
  have e3 : View.readAt (Elt F) arg2.view (⟨![3, 0], ![256, 128], ![8, 1], inb_S2048x128_S256x128_3_0_s_8_1⟩ : LoadRect S2048x128) (harg2.unread x) = rows x 3 := hx 3 _
  have e4 : View.readAt (Elt F) arg2.view (⟨![4, 0], ![256, 128], ![8, 1], inb_S2048x128_S256x128_4_0_s_8_1⟩ : LoadRect S2048x128) (harg2.unread x) = rows x 4 := hx 4 _
  have e5 : View.readAt (Elt F) arg2.view (⟨![5, 0], ![256, 128], ![8, 1], inb_S2048x128_S256x128_5_0_s_8_1⟩ : LoadRect S2048x128) (harg2.unread x) = rows x 5 := hx 5 _
  have e6 : View.readAt (Elt F) arg2.view (⟨![6, 0], ![256, 128], ![8, 1], inb_S2048x128_S256x128_6_0_s_8_1⟩ : LoadRect S2048x128) (harg2.unread x) = rows x 6 := hx 6 _
  have e7 : View.readAt (Elt F) arg2.view (⟨![7, 0], ![256, 128], ![8, 1], inb_S2048x128_S256x128_7_0_s_8_1⟩ : LoadRect S2048x128) (harg2.unread x) = rows x 7 := hx 7 _
  unfold bodyRun bodyRun.sl.v33 stored hidden
  dsimp only
  rw [hd, hw, e0, e1, e2, e3, e4, e5, e6, e7]

/-! ## The pipeline's proof data -/

/-- Window `w`'s block at a point, of its array as the launch finds it. -/
def iblk (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

/-- What the output's staging buffer holds after a point. -/
def outAt (c : Dev nD) (t : Fin (cfgT m).N) : Vec F S2048x128 .f32 :=
  outBlock (hidden (iblk m c 0 t) (iblk m c 1 t)) (iblk m c 2 t)

/-- The proof data of the pipeline on a core. -/
def dats (_ : Fin 1) (c : Dev nD) : Dat τ (Elt F) Unit ℕ (UR sig nD τ) ℕ (cfgT m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tab m) c)
  q _ := fullShare
  owed _ := 0

theorem A_eq (c : Dev nD) (w : Fin (cfgT m).W) : (dats m 0 c).A w = V m c (Pipeline.arrRef spec0 w) := by
  dsimp only [dats]

theorem after_0 (c : Dev nD) (t : Fin (cfgT m).N) : (dats m 0 c).after 0 t = iblk m c 0 t := rfl
theorem after_1 (c : Dev nD) (t : Fin (cfgT m).N) : (dats m 0 c).after 1 t = iblk m c 1 t := rfl
theorem after_2 (c : Dev nD) (t : Fin (cfgT m).N) : (dats m 0 c).after 2 t = iblk m c 2 t := rfl
theorem after_3 (c : Dev nD) (t : Fin (cfgT m).N) : (dats m 0 c).after 3 t = outAt m c t := rfl

theorem before_0 (c : Dev nD) (t : Fin (cfgT m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The windows' staging buffers at a point. -/
abbrev ms0 (t : Fin (cfgT m).N) : Memref sig .tc .vmem S2048x128 .f32 := spec0_0.stage ((cfgT m).slots t 0)
abbrev hs0 (t : Fin (cfgT m).N) : (ms0 m t).IsWhole := hstage0_0 (((cfgT m).slots t 0).cast nbuf0_0)
abbrev ms1 (t : Fin (cfgT m).N) : Memref sig .tc .vmem S1x1x1024x512 .bf16 := spec0_1.stage ((cfgT m).slots t 1)
abbrev hs1 (t : Fin (cfgT m).N) : (ms1 m t).IsWhole := hstage0_1 (((cfgT m).slots t 1).cast nbuf0_1)
abbrev ms2 (t : Fin (cfgT m).N) : Memref sig .tc .vmem S1x1x256x1024 .bf16 := spec0_2.stage ((cfgT m).slots t 2)
abbrev hs2 (t : Fin (cfgT m).N) : (ms2 m t).IsWhole := hstage0_2 (((cfgT m).slots t 2).cast nbuf0_2)
abbrev ms3 (t : Fin (cfgT m).N) : Memref sig .tc .vmem S2048x128 .f32 := spec0_3.stage ((cfgT m).slots t 3)
abbrev hs3 (t : Fin (cfgT m).N) : (ms3 m t).IsWhole := hstage0_3 (((cfgT m).slots t 3).cast nbuf0_3)

/-- The body at a point. -/
def bodyAt (t : Fin (cfgT m).N) : Prog (TpuEff nD τ sig (Elt F) Λ₀ .tc) PUnit :=
  cc0_moe_experts (grid0.coords t) (Memref.whole main_v19) (Memref.isWhole_whole _) (ms0 m t) (hs0 m t) (ms1 m t) (hs1 m t)
    (ms2 m t) (hs2 m t) (ms3 m t) (hs3 m t)

def bodyPre (c : Dev nD) (t : Fin (cfgT m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

def bodyPost (c : Dev nD) (t : Fin (cfgT m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point. -/
theorem sound_body (c : Dev nD) (t : Fin (cfgT m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply ((bodyRun c (grid0.coords t) _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  refine (congrArg (fun L => View.read (Elt F) (ms3 m t).view ((ms3 m t).view.writes (Elt F) e3 L))
    (bodyRun_pieces c (grid0.coords t) _ _ (ms0 m t) _ (ms1 m t) _ (ms2 m t) _ (ms3 m t) _ (iblk m c 0 t) (iblk m c 1 t) (iblk m c 2 t))).trans ?_
  funext y
  exact View.read_writes_apply_of_pieces _ _ (outBlock _ _) _ (stored_pieces _ _).mem y (stored_cover _ _ y)

theorem defs₀_row (t : Fin (cfgT m).N) :
    defs₀ (F := F) .tc (cfgT m).body ((cfgT m).bodyArgs t ((cfgT m).slots t)) = bodyAt m t := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every weakly fair execution terminates, with the arrays at what the proof data says and the counters at zero. -/
theorem run_quiet : θ_run defs (onTc (τ := τ) (main (F := F))) (s₀ m ρ)
    (fun r => (Pipeline.FramePost (Pipeline.pin pcfgs (adm m)) (dats m) 0 (V m)) r ∧ r.2.sem = fun _ => 0) :=
  Pipeline.θ_run_frameP (Q' := _) pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := fun c k => by obtain rfl := Subsingleton.elim c 0; rfl)
    (hΦ := fun _ _ => rfl)

theorem V_main_arg1 (c : Dev nD) : V m c main_arg1 = m ((c : Thread nD τ).loc main_arg1) := by
  simp only [V, lines, List.flatten_cons, List.flatten_nil, List.cons_append, List.nil_append, List.append_nil]
  entry_read
  rfl
theorem V_main_arg2 (c : Dev nD) : V m c main_arg2 = m ((c : Thread nD τ).loc main_arg2) := by
  simp only [V, lines, List.flatten_cons, List.flatten_nil, List.cons_append, List.nil_append, List.append_nil]
  entry_read
  rfl
theorem V_main_arg3 (c : Dev nD) : V m c main_arg3 = m ((c : Thread nD τ).loc main_arg3) := by
  simp only [V, lines, List.flatten_cons, List.flatten_nil, List.cons_append, List.nil_append, List.append_nil]
  entry_read
  rfl

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (show ∀ w : Fin 4, (spec0 w).arr.view.ref ≠ main_arg0 by decide))).trans (V_main_arg0 m c),
      ((h.1 c).2 main_arg1 (Pipeline.mem_restRefs_of main_arg1 (by decide) (show ∀ w : Fin 4, (spec0 w).arr.view.ref ≠ main_arg1 by decide))).trans (V_main_arg1 m c),
      ((h.1 c).2 main_arg2 (Pipeline.mem_restRefs_of main_arg2 (by decide) (show ∀ w : Fin 4, (spec0 w).arr.view.ref ≠ main_arg2 by decide))).trans (V_main_arg2 m c),
      ((h.1 c).2 main_arg3 (Pipeline.mem_restRefs_of main_arg3 (by decide) (show ∀ w : Fin 4, (spec0 w).arr.view.ref ≠ main_arg3 by decide))).trans (V_main_arg3 m c)⟩, h.2⟩) (run_quiet m ρ)

end Cert.ExpertsIdeal.Layer

end
-- ==== Proof.Layer.ExpertsValue.lean ====
module

public import proofs.«01_k».proof.Defs
public import proofs.«01_k».proof.Proof.Layer.ExpertsFrame
public import proofs.«01_k».proof.Proof.Layer.ExpertsBits
public import proofs.«01_k».proof.Proof.Gen.ExpertsRefIdeal.Run
public import Idealize.ShloMosaic.Lib.Claim
public import Idealize.ShloMosaic.Lib.StableHlo.RunHlo

/-! The experts: the kernel's result and the reference's are one function of the rows, the counts and the weights. -/

@[expose] public section

set_option maxRecDepth 16384

noncomputable section

namespace Cert.ExpertsIdeal.Layer

open Cert.ExpertsIdeal Cert.ExpertsIdeal.Gen Idealize.ShloMosaic Idealize.ShloMosaic.TcCoe Idealize.SL.Sem
open Idealize.ShloMosaic.Pipeline (Dat)

theorem frame_Experts : Cert.quiescent_Experts := fun m ρ _ => Cert.Experts.Layer.frame (F := Bits) m ρ
theorem frame_ExpertsIdeal : Cert.quiescent_ExpertsIdeal := fun m ρ _ => frame (F := Ideal) m ρ

/-- The frame of the reference of the experts. -/
theorem frame_ExpertsRefIdeal : Cert.quiescent_ExpertsRefIdeal := fun m ρ _ =>
  θ_run_mono (Cert.ExpertsRefIdeal.Value.run (F := Ideal) m ρ) fun r h =>
    ⟨fun c => (h c).2, Idealize.ShloMosaic.sem_eq_zero_of_no_sems (by decide) r.2⟩

variable (m : (ℓ : Loc nD τ sig) → Buf (Elt Ideal) ℓ) (ρ : Dev nD → PrngReg)

theorem V_rows (c : Dev nD) : V m c main_v20 = shapeCast S294912x128 (m (c, Proc.devRef .tc main_arg0)) shapeCasts_S36864x1024_S294912x128 :=
  V_main_v20 m c
theorem V_up (c : Dev nD) : V m c main_v21 = m (c, Proc.devRef .tc main_arg2) := by
  simp only [V, lines, List.flatten_cons, List.flatten_nil, List.cons_append, List.nil_append, List.append_nil]
  entry_read; rfl
theorem V_down (c : Dev nD) : V m c main_v22 = m (c, Proc.devRef .tc main_arg3) := by
  simp only [V, lines, List.flatten_cons, List.flatten_nil, List.cons_append, List.nil_append, List.append_nil]
  entry_read; rfl

theorem index_0 (t : Fin (cfgT m).N) : ((cfgT m).win 0).index t = ![(grid0.coords t 0).val, 0] :=
  (by decide +kernel : ∀ t : Fin grid0.N, cc0_transform_0 (grid0.coords t) = ![(grid0.coords t 0).val, 0]) t
theorem index_3 (t : Fin (cfgT m).N) : ((cfgT m).win 3).index t = ![(grid0.coords t 0).val, 0] :=
  (by decide +kernel : ∀ t : Fin grid0.N, cc0_transform_3 (grid0.coords t) = ![(grid0.coords t 0).val, 0]) t
theorem index_1 (t : Fin (cfgT m).N) : ((cfgT m).win 1).index t = ![0, (tab m 0 (place (grid0.coords t)) : BitVec 32).toNat, 0, 0] :=
  transform_1 _ _
theorem index_2 (t : Fin (cfgT m).N) : ((cfgT m).win 2).index t = ![0, (tab m 0 (place (grid0.coords t)) : BitVec 32).toNat, 0, 0] :=
  transform_2 _ _

/-- Row `r`, column `k` of a tile, of its block of flat rows. -/
def cell (x : Vec Ideal S2048x128 .f32) (r : Fin 256) (k : Fin 1024) : EReal :=
  x (ix2 (⟨k.val / 128 + 8 * r.val, by omega⟩ : Fin 2048) (⟨k.val % 128, by omega⟩ : Fin 128))

theorem rows_at (x : Vec Ideal S2048x128 .f32) (n : Fin 8) (r : Fin 256) (k : Fin 1024) (l : Fin 128) (h : k.val = 128 * n.val + l.val) :
    rows x n (ix2 r l) = cell x r k := by
  unfold rows cell
  refine congrArg x ?_
  funext a
  apply Fin.ext
  fin_cases a
  · show n.val + 8 * r.val = k.val / 128 + 8 * r.val
    omega
  · show l.val = k.val % 128
    omega

/-- The gated unit: `g` against the gate's weights, times its logistic value, times `u`. -/
def unit (g u : EReal) : EReal := g * Ideal.div 1 (1 + Ideal.exp (0 - g)) * u

theorem hidden_at (x : Vec Ideal S2048x128 .f32) (w : Vec Ideal S1x1x1024x512 .bf16) (r : Fin 256) (f : Fin 256) :
    hidden x w (ix2 r f) = unit (∑ k : Fin 1024, cell x r k * w (ix4 0 0 k (⟨f.val, by omega⟩ : Fin 512)))
      (∑ k : Fin 1024, cell x r k * w (ix4 0 0 k (⟨256 + f.val, by omega⟩ : Fin 512))) := by
  have hc : ∀ k : Fin 1024, (if h : k.val < 128 then rows x 0 (ix2 r (⟨k.val, h⟩ : Fin 128)) else
      if h : k.val - 128 < 128 then rows x 1 (ix2 r (⟨k.val - 128, h⟩ : Fin 128)) else
      if h : k.val - 128 - 128 < 128 then rows x 2 (ix2 r (⟨k.val - 128 - 128, h⟩ : Fin 128)) else
      if h : k.val - 128 - 128 - 128 < 128 then rows x 3 (ix2 r (⟨k.val - 128 - 128 - 128, h⟩ : Fin 128)) else
      if h : k.val - 128 - 128 - 128 - 128 < 128 then rows x 4 (ix2 r (⟨k.val - 128 - 128 - 128 - 128, h⟩ : Fin 128)) else
      if h : k.val - 128 - 128 - 128 - 128 - 128 < 128 then rows x 5 (ix2 r (⟨k.val - 128 - 128 - 128 - 128 - 128, h⟩ : Fin 128)) else
      if h : k.val - 128 - 128 - 128 - 128 - 128 - 128 < 128 then rows x 6 (ix2 r (⟨k.val - 128 - 128 - 128 - 128 - 128 - 128, h⟩ : Fin 128)) else
        rows x 7 (ix2 r (⟨k.val - 128 - 128 - 128 - 128 - 128 - 128 - 128, by omega⟩ : Fin 128))) = cell x r k := fun k => by
    split_ifs
    all_goals refine rows_at x _ r k _ ?_
    all_goals
      simp
      try omega
  unfold hidden
  pointwise [k0_pay10]
  simp only [hc]
  rfl

theorem out_at (h : FVec Ideal S256x256 .bf16) (d : Vec Ideal S1x1x256x1024 .bf16) (y : S2048x128.Idx) :
    outBlock h d y = ∑ f : Fin 256, h (ix2 (⟨(y 0).val / 8, by have : (y 0).val < 2048 := (y 0).isLt; omega⟩ : Fin 256) f) *
      d (ix4 0 0 f (⟨(y 0).val % 8 * 128 + (y 1).val, by have : (y 1).val < 128 := (y 1).isLt; omega⟩ : Fin 1024)) := by
  unfold outBlock
  pointwise [k0_pay1]

/-! ## The whole output -/

/-- The experts' output at flat row and lane `y`, of the flat rows `x`, the expert `e` of each tile and the weights. -/
def G (x : FVec Ideal S294912x128 .f32) (w : FVec Ideal S4x16x1024x512 .bf16) (d : FVec Ideal S4x16x256x1024 .bf16) (e : Fin 144 → Fin 16) :
    Vec Ideal S294912x128 .f32 := fun y =>
  have h0 : (y 0).val < 294912 := (y 0).isLt
  have h1 : (y 1).val < 128 := (y 1).isLt
  have row := fun k : Fin 1024 => x (ix2 (⟨k.val / 128 + 8 * ((y 0).val / 8), by omega⟩ : Fin 294912) (⟨k.val % 128, by omega⟩ : Fin 128))
  have t : Fin 144 := ⟨(y 0).val / 2048, by omega⟩
  ∑ f : Fin 256, unit (∑ k, row k * w (ix4 0 (e t) k (⟨f.val, by omega⟩ : Fin 512)))
      (∑ k, row k * w (ix4 0 (e t) k (⟨256 + f.val, by omega⟩ : Fin 512))) *
    d (ix4 0 (e t) f (⟨(y 0).val % 8 * 128 + (y 1).val, by omega⟩ : Fin 1024))

/-- The expert the table names for a tile. -/
def chosen (e : IVec S16 32) (t : Fin 144) : Fin 16 := ⟨(table e (ix1 t)).toNat, by have := table_le e (ix1 t); omega⟩

theorem coord (t : Fin (cfgT m).N) : (grid0.coords t 0).val = t.val := (by decide +kernel : ∀ t : Fin grid0.N, (grid0.coords t 0).val = t.val) t

theorem covers : ((cfgT m).win 3).Covers := by
  have hN : (cfgT m).N = 144 := (by decide +kernel : grid0.N = 144)
  refine ⟨(by decide : ∀ a : Fin 2, 0 < S2048x128.size a), fun β => ?_⟩
  have hb : (β (0 : Fin 2)).val < 144 := lt_of_lt_of_eq (β (0 : Fin 2)).isLt (show (294912 + 2048 - 1) / 2048 = 144 by norm_num)
  have hb1 : (β (1 : Fin 2)).val < 1 := lt_of_lt_of_eq (β (1 : Fin 2)).isLt (show (128 + 128 - 1) / 128 = 1 by norm_num)
  refine ⟨⟨(β (0 : Fin 2)).val, by rw [← hN] at hb; exact hb⟩, ?_, fun a => ?_⟩
  · unfold Pipeline.Window.flush
    refine Bool.and_eq_true_iff.mpr ⟨rfl, ?_⟩
    rw [Bool.or_eq_true, decide_eq_true_eq, decide_eq_true_eq]
    by_cases h : (β (0 : Fin 2)).val + 1 = 144
    · exact Or.inl (h.trans hN.symm)
    · refine Or.inr ⟨lt_of_lt_of_eq (show (β (0 : Fin 2)).val + 1 < 144 by omega) hN.symm, fun e => ?_⟩
      have e0 := congrFun ((index_3 m _).symm.trans (e.trans (index_3 m _))) (0 : Fin 2)
      have e0 : (grid0.coords _ 0).val = (grid0.coords _ 0).val := e0
      rw [coord m, coord m] at e0
      have e0 : (β (0 : Fin 2)).val + 1 = (β (0 : Fin 2)).val := e0
      omega
  · rw [index_3]
    match a with
    | ⟨0, _⟩ => exact ⟨coord m _, Or.inl rfl⟩
    | ⟨1, _⟩ => exact ⟨by show 0 = (β (1 : Fin 2)).val; omega, Or.inl rfl⟩

abbrev X (t : Fin (cfgT m).N) : Vec Ideal S2048x128 .f32 := iblk m 0 0 t
abbrev W (t : Fin (cfgT m).N) : Vec Ideal S1x1x1024x512 .bf16 := iblk m 0 1 t
abbrev D (t : Fin (cfgT m).N) : Vec Ideal S1x1x256x1024 .bf16 := iblk m 0 2 t

theorem point (t : Fin (cfgT m).N) : t.val < 144 := lt_of_lt_of_eq t.isLt (by decide +kernel : grid0.N = 144)

/-- The expert a grid point's weights are of. -/
abbrev pick (t : Fin (cfgT m).N) : Fin 16 := chosen (ends (m (0, Proc.devRef .tc main_arg1))) ⟨t.val, point m t⟩

theorem X_at (t : Fin (cfgT m).N) (r : Fin 2048) (l : Fin 128) :
    X m t (ix2 r l) = V m 0 main_v20 (ix2 (⟨t.val * 2048 + r.val, by have := point m t; omega⟩ : Fin 294912) l) := by
  have e0 := index_0 m t
  rw [coord] at e0
  unfold X iblk
  blk_simp
  blk_ext [e0]

theorem pick_eq (t : Fin (cfgT m).N) : (tab m 0 (place (grid0.coords t)) : BitVec 32).toNat = (pick m t).val := by
  rw [show place (grid0.coords t) = ix1 ⟨t.val, point m t⟩ from congrArg ix1 (Fin.ext (coord m t)), tab_zero]
  rfl

theorem W_at (t : Fin (cfgT m).N) (k : Fin 1024) (f : Fin 512) :
    W m t (ix4 0 0 k f) = V m 0 main_v21 (ix4 0 (pick m t) k f) := by
  have e1 := index_1 m t
  rw [pick_eq] at e1
  unfold W iblk
  blk_simp
  blk_ext [e1]

theorem D_at (t : Fin (cfgT m).N) (k : Fin 256) (f : Fin 1024) :
    D m t (ix4 0 0 k f) = V m 0 main_v22 (ix4 0 (pick m t) k f) := by
  have e1 := index_2 m t
  rw [pick_eq] at e1
  unfold D iblk
  blk_simp
  blk_ext [e1]

theorem out_place (t : Fin (cfgT m).N) (r : Fin 2048) (l : Fin 128) :
    (((cfgT m).win 3).blk t).view.emb (ix2 r l) = ix2 (⟨t.val * 2048 + r.val, by have := point m t; omega⟩ : Fin 294912) l := by
  have e0 := index_3 m t
  rw [coord] at e0
  blk_ext [e0]

theorem final : (dats m 0 0).arrAt 3 (cfgT m).N =
    G (V m 0 main_v20) (V m 0 main_v21) (V m 0 main_v22) (chosen (ends (m (0, Proc.devRef .tc main_arg1)))) := by
  refine (dats m 0 0).arrAt_eq_of_covers 3 _ (covers m) fun t hf y => ?_
  blk_simp
  rw [after_3]
  have ht := point m t
  obtain ⟨r, l, rfl⟩ : ∃ (r : Fin 2048) (l : Fin 128), y = ix2 r l := ⟨y (0 : Fin 2), y (1 : Fin 2), by funext a; match a with | ⟨0, _⟩ => rfl | ⟨1, _⟩ => rfl⟩
  refine Eq.trans (show _ = outBlock (hidden (X m t) (W m t)) (D m t) (ix2 r l) from rfl) ?_
  refine Eq.trans ?_ (congrArg (G _ _ _ _) (out_place m t r l)).symm
  rw [out_at]
  unfold G
  have hp : (⟨(t.val * 2048 + r.val) / 2048, by omega⟩ : Fin 144) = ⟨t.val, ht⟩ := Fin.ext (by show (t.val * 2048 + r.val) / 2048 = t.val; omega)
  have hcell : ∀ (q : Fin 256) (k : Fin 1024), q.val = r.val / 8 → cell (X m t) q k = V m 0 main_v20 (ix2 (⟨k.val / 128 + 8 * ((t.val * 2048 + r.val) / 8), by omega⟩ : Fin 294912) (⟨k.val % 128, by omega⟩ : Fin 128)) := fun q k h => by
    unfold cell
    rw [X_at]
    refine congrArg (V m 0 main_v20) (congrArg₂ ix2 (Fin.ext ?_) rfl)
    show t.val * 2048 + (k.val / 128 + 8 * q.val) = k.val / 128 + 8 * ((t.val * 2048 + r.val) / 8)
    omega
  show (∑ f : Fin 256, _ : EReal) = ∑ f : Fin 256, _
  refine Finset.sum_congr rfl fun f _ => ?_
  rw [hidden_at]
  simp only [W_at, D_at]
  refine congrArg₂ (· * ·) (congrArg₂ unit ?_ ?_) ?_
  · refine Finset.sum_congr rfl fun k _ => congrArg₂ (· * ·) (hcell _ k rfl) ?_
    show _ = V m 0 main_v21 (ix4 0 (chosen _ ⟨(t.val * 2048 + r.val) / 2048, _⟩) k _)
    rw [hp]
  · refine Finset.sum_congr rfl fun k _ => congrArg₂ (· * ·) (hcell _ k rfl) ?_
    show _ = V m 0 main_v21 (ix4 0 (chosen _ ⟨(t.val * 2048 + r.val) / 2048, _⟩) k _)
    rw [hp]
  · show _ = V m 0 main_v22 (ix4 0 (chosen _ ⟨(t.val * 2048 + r.val) / 2048, _⟩) f _)
    rw [hp]
    refine congrArg (V m 0 main_v22) (congrArg (ix4 0 _ f) (Fin.ext ?_))
    show r.val % 8 * 128 + l.val = (t.val * 2048 + r.val) % 8 * 128 + l.val
    omega

/-- The kernel's result, on every core. -/
theorem value : θ_run (defs (F := Ideal)) (onTc (τ := τ) (main (F := Ideal))) ⟨m, fun _ => 0, ρ⟩ (fun r => ∀ c : Dev nD,
    r.2.mem ((c.tc : Thread nD τ).loc main_v23) =
      G (shapeCast S294912x128 (m ((c.tc : Thread nD τ).loc main_arg0)) shapeCasts_S36864x1024_S294912x128) (m ((c.tc : Thread nD τ).loc main_arg2))
        (m ((c.tc : Thread nD τ).loc main_arg3)) (chosen (ends (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine Idealize.ShloMosaic.θ_run_mono (Idealize.ShloMosaic.θ_run_and (run_quiet m ρ) (frame m ρ)) fun r h c => ⟨?_, h.2.1 c⟩
  obtain rfl := Subsingleton.elim c 0
  refine ((h.1.1 0).1 3).trans ((final m).trans ?_)
  rw [V_rows, V_up, V_down]

/-! ## The reference's words -/

open Cert.ExpertsRefIdeal in
/-- Each expert's share of rows in whole tiles, as the reference rounds it up. -/
def padded' (n : IVec Cert.ExpertsRefIdeal.S16 32) : IVec Cert.ExpertsRefIdeal.S16 32 :=
  have b := fun w : BitVec 32 => broadcastInDim Cert.ExpertsRefIdeal.S16 ![] Cert.ExpertsRefIdeal.Gen.bcast_S_S16 (constantI Cert.ExpertsRefIdeal.S_ 32 w)
  muli (select (andi (cmpi .ne (signi (addi n (b 255#32))) (broadcastInDim Cert.ExpertsRefIdeal.S16 ![] Cert.ExpertsRefIdeal.Gen.bcast_S_S16 (signi (constantI Cert.ExpertsRefIdeal.S_ 32 256#32))))
      (cmpi .ne (Host.remsi (addi n (b 255#32)) (b 256#32)) (b 0#32)))
      (subi (Host.divsi (addi n (b 255#32)) (b 256#32)) (b 1#32)) (Host.divsi (addi n (b 255#32)) (b 256#32)))
    (b 256#32)

theorem padded'_eq (n : IVec S16 32) : padded' n = padded n := by
  have h : subi (addi n (broadcastInDim S16 ![] bcast_S_S16 (constantI S_ 32 256#32))) (broadcastInDim S16 ![] bcast_S_S16 (constantI S_ 32 1#32)) =
      addi n (broadcastInDim S16 ![] bcast_S_S16 (constantI S_ 32 255#32)) := by
    have w : ∀ a : BitVec 32, a + 256#32 - 1#32 = a + 255#32 := fun a => by
      rw [BitVec.sub_eq_add_neg, BitVec.add_assoc]
      rfl
    exact funext fun i => w (n i)
  unfold padded
  rw [h]
  rfl

theorem ends_of_reference (n : IVec Cert.ExpertsRefIdeal.S16 32) :
    Host.reduceWindow IntOp.addi ![16] ![1] ![15] ![0] (padded' n)
      (broadcastInDim Cert.ExpertsRefIdeal.S_ ![] Cert.ExpertsRefIdeal.Gen.bcast_S_S_ (constantI Cert.ExpertsRefIdeal.S_ 32 0#32))
      Cert.ExpertsRefIdeal.Gen.reduceWindows_S16_S16_w16s1p15_0 Cert.ExpertsRefIdeal.Gen.h_S_ = ends n := by
  unfold ends
  rw [← padded'_eq]

/-! ## Whole tiles -/

theorem dvd_add {a b : BitVec 32} (ha : 256 ∣ a.toNat) (hb : 256 ∣ b.toNat) : 256 ∣ (IntOp.addi a b : BitVec 32).toNat := by
  show 256 ∣ (a + b).toNat
  rw [BitVec.toNat_add]
  omega

theorem dvd_mul (a : BitVec 32) : 256 ∣ (IntOp.muli a 256#32 : BitVec 32).toNat := by
  show 256 ∣ (a * 256#32).toNat
  rw [BitVec.toNat_mul]
  have : (256#32).toNat = 256 := rfl
  rw [this]
  omega

theorem padded_dvd (n : IVec S16 32) (i : S16.Idx) : 256 ∣ (padded n i).toNat := dvd_mul _

/-- Every expert's rows end on a tile's edge. -/
theorem ends_dvd (n : IVec S16 32) (i : S16.Idx) : 256 ∣ (ends n i).toNat := by
  unfold ends Host.reduceWindow
  have hv : ∀ j : S_.Idx, 256 ∣ ((broadcastInDim S_ ![] bcast_S_S_ (constantI S_ 32 0#32) : IVec S_ 32) j).toNat := fun j => by
    show 256 ∣ (0#32).toNat
    decide
  dsimp only
  generalize List.finRange _ = l
  suffices H : ∀ r : BitVec 32, 256 ∣ r.toNat → 256 ∣ (List.foldl _ r l : BitVec 32).toNat from H _ (hv _)
  induction l with
  | nil => exact fun r hr => hr
  | cons a l ih =>
    intro r hr
    refine ih _ (dvd_add hr ?_)
    split
    · exact padded_dvd n _
    · exact hv _

theorem toInt_ofNat {R : Nat} (hR : R < 36864) : (BitVec.ofNat 32 R).toInt = R := by
  rw [BitVec.toInt_eq_toNat_cond, BitVec.toNat_ofNat]
  split <;> omega

/-- A row and its tile's first row lie on the same side of a tile's edge. -/
theorem side {e : BitVec 32} (he : 256 ∣ e.toNat) {R : Nat} (hR : R < 36864) :
    IntOp.cmpi .sge (BitVec.ofNat 32 R) e = IntOp.cmpi .sge (IntOp.muli (BitVec.ofNat 32 (R / 256)) 256#32) e := by
  have hm : (IntOp.muli (BitVec.ofNat 32 (R / 256)) 256#32 : BitVec 32) = BitVec.ofNat 32 (R / 256 * 256) := by
    show BitVec.ofNat 32 (R / 256) * 256#32 = _
    rw [BitVec.ofNat_mul]
  rw [hm]
  show BitVec.ofBool (e.sle (BitVec.ofNat 32 R)) = BitVec.ofBool (e.sle (BitVec.ofNat 32 (R / 256 * 256)))
  refine congrArg _ ?_
  rw [BitVec.sle, BitVec.sle, toInt_ofNat hR, toInt_ofNat (by omega), decide_eq_decide, BitVec.toInt_eq_toNat_cond]
  have := e.isLt
  split <;> omega

theorem expert_of_row (e : IVec S16 32) (he : ∀ i, 256 ∣ (e i).toNat) (R : Nat) (hR : R < 36864) :
    IntOp.minsi (Finset.fold IntOp.addi (0#32) (fun x : Fin 16 => BitVec.setWidth 32 (IntOp.cmpi .sge (BitVec.ofNat 32 R) (e (ix1 x)))) Finset.univ) 15#32
      = BitVec.ofNat 32 (chosen e ⟨R / 256, by omega⟩).val := by
  have h : table e (ix1 (⟨R / 256, by omega⟩ : Fin 144)) = IntOp.minsi (Finset.fold IntOp.addi (0#32) (fun x : Fin 16 => BitVec.setWidth 32 (IntOp.cmpi .sge (BitVec.ofNat 32 R) (e (ix1 x)))) Finset.univ) 15#32 := by
    unfold table
    pointwise
    simp only [side (he _) hR]
  unfold chosen
  rw [← h, BitVec.ofNat_toNat, BitVec.setWidth_eq]

/-- The sum over the experts keeps the row's own. -/
theorem keep (c : Fin 16) (h : Fin 16 → Fin 256 → EReal) (d : Fin 16 → Fin 256 → EReal) :
    (∑ x : Fin 16, ∑ f : Fin 256, h x f * (FloatOps.uitofp .f32 (IntOp.cmpi .eq (BitVec.ofNat 32 c.val) (BitVec.ofNat 32 x.val)) : Ideal .f32) * d x f : EReal)
      = ∑ f : Fin 256, h c f * d c f := by
  have hw : ∀ x : Fin 16, IntOp.cmpi .eq (BitVec.ofNat 32 c.val) (BitVec.ofNat 32 x.val) = if c = x then 1#1 else 0#1 := by
    revert c; decide
  rw [Finset.sum_eq_single c]
  · refine Finset.sum_congr rfl fun f _ => ?_
    rw [hw, if_pos rfl, show (FloatOps.uitofp .f32 (1#1) : Ideal .f32) = (1 : EReal) by show (((1#1 : BitVec 1).toNat : ℝ) : EReal) = 1; simp, mul_one]
  · intro x _ hx
    refine Finset.sum_eq_zero fun f _ => ?_
    rw [hw, if_neg (Ne.symm hx), show (FloatOps.uitofp .f32 (0#1) : Ideal .f32) = (0 : EReal) by show (((0#1 : BitVec 1).toNat : ℝ) : EReal) = 0; simp, mul_zero, zero_mul]
  · exact fun h => absurd (Finset.mem_univ _) h

/-- A row of the tokens, read off the flat rows. -/
theorem flat_row (x : FVec Ideal S36864x1024 .f32) (R : Nat) (hR : R < 36864) (k : Fin 1024) :
    shapeCast S294912x128 x shapeCasts_S36864x1024_S294912x128 (ix2 (⟨k.val / 128 + 8 * R, by omega⟩ : Fin 294912) (⟨k.val % 128, by omega⟩ : Fin 128))
      = x (ix2 (⟨R, hR⟩ : Fin 36864) k) := by
  pointwise
  refine congrArg x (congrArg₂ ix2 (Fin.ext ?_) (Fin.ext ?_))
  · show (k.val / 128 + 8 * R) / 8 = R
    omega
  · rfl

set_option maxHeartbeats 1000000 in
theorem alg : Cert.algebraic_ExpertsIdeal_ExpertsRefIdeal := by
  pair_intro
  · run_from value m g
  · run_from Cert.ExpertsRefIdeal.Value.run m' g'
    funext i
    idx_bounds i
    have hE := ends_of_reference (m ((c.tc : Thread nD τ).loc main_arg1))
    unfold padded' at hE
    pointwise
    dsimp only at hE
    simp only [hE]
    rw [expert_of_row _ (ends_dvd _) _ (by omega)]
    refine (keep _ (fun x f => _) (fun x f => _)).trans ?_
    unfold G unit
    dsimp only
    have ht : (⟨(i 0).val / 8 / 256, by omega⟩ : Fin 144) = ⟨(i 0).val / 2048, by omega⟩ := Fin.ext (Nat.div_div_eq_div_mul _ _ _)
    rw [ht]
    simp only [zero_sub]
    have hR : (i 0).val / 8 < 36864 := by omega
    refine Finset.sum_congr rfl fun f _ => congrArg (· * _) (congrArg₂ (· * ·) (congrArg₂ (· * ·) ?_ (congrArg (fun z => Ideal.div 1 (1 + Ideal.exp (-z))) ?_)) ?_)
    all_goals exact Finset.sum_congr rfl fun k _ => congrArg (· * _) (flat_row _ _ hR k).symm

end Cert.ExpertsIdeal.Layer
end
-- ==== Proof.Layer.QkvCommon.lean ====
module

public import Idealize.ShloMosaic.Lib.Claim
public import Idealize.ShloMosaic.Lib.Pointwise
public import Idealize.ShloMosaic.Lib.Tactic.CleanTypes
public import Idealize.ShloMosaic.Lib.Pipeline.ValueKit
public import Idealize.ShloMosaic.Lib.Pipeline.ReadBack

/-! What the query, key and value projections of all three groups have in common: one entry of a projection as a
function of the rows and the weights, and the scale that the query third carries. -/

@[expose] public section

noncomputable section

namespace Cert.Layer

open Idealize.ShloMosaic

/-- One entry of the projection of group `g`: row `row` of the tokens against column `col` of the group's 3072
    columns, times the query scale if the column is one of the first 1024. -/
def proj (h : (⟨2, ![16384, 1024]⟩ : Shape).Idx → EReal) (w : (⟨3, ![2, 1024, 9216]⟩ : Shape).Idx → EReal)
    (g row col : ℕ) (hr : row < 16384) (hc : g * 3072 + col < 9216) : EReal :=
  (∑ k : Fin 1024, h (ix2 ⟨row, hr⟩ k) * w (ix3 0 k ⟨g * 3072 + col, hc⟩))
    * if col < 1024 then Ideal.ofBits FTy.f32 0x3E38AA3B#32 else 1

/-- The kernel's choice of the scale, made from the column block's number: block 0 holds the first 1024 columns. -/
theorem scale_block (n x : ℕ) (hn : n < 3) (hx : x < 1024) (a b : EReal) :
    Scalar.select (Scalar.cmpi CmpIPredicate.eq (BitVec.ofNat 32 n) 0#32) a b
      = if n * 1024 + x < 1024 then a else b := by
  interval_cases n
  · rw [if_pos (by omega)]; rfl
  · rw [if_neg (by omega)]; rfl
  · rw [if_neg (by omega)]; rfl

/-- The reference's choice of the scale, made from the number of the third the column lies in. -/
theorem scale_third (x : ℕ) (hx : x < 3072) (a b : EReal) :
    Scalar.select (IntOp.cmpi CmpIPredicate.eq (BitVec.ofNat 32 (x / 1024)) 0#32) a b
      = if x < 1024 then a else b := by
  have h := scale_block (x / 1024) (x % 1024) (by omega) (by omega) a b
  rw [Nat.div_add_mod' x 1024] at h
  exact h

end Cert.Layer
end
-- ==== Proof.Layer.QkvAValue.lean ====
module

public import proofs.«01_k».proof.Defs
public import proofs.«01_k».proof.Proof.Gen.QkvAIdeal.Value
public import proofs.«01_k».proof.Proof.Gen.QkvRefAIdeal.Run
public import proofs.«01_k».proof.Proof.Layer.QkvCommon

/-! The projection of group 0 (dilation 1): the kernel's result and the reference's are one function of the rows
and the weights. -/

@[expose] public section

set_option maxRecDepth 16384

noncomputable section

namespace Cert.QkvAIdeal.Layer

open Cert.QkvAIdeal Cert.QkvAIdeal.Gen Idealize.ShloMosaic Idealize.ShloMosaic.TcCoe Idealize.SL.Sem Cert.Layer
open Idealize.ShloMosaic.Pipeline (Dat)

variable (m : (ℓ : Loc nD τ sig) → Buf (Elt Ideal) ℓ) (ρ : Dev nD → PrngReg)

/-- The grid's index maps in closed form: the rows' block, the weights' block and the result's block at each point. -/
theorem idx : ∀ t : Fin cfg0.N,
    win0_0.index t = ![(grid0.coords t 1).val, 0] ∧ win0_1.index t = ![0, 0, (grid0.coords t 0).val]
      ∧ win0_2.index t = ![0, (grid0.coords t 1).val, (grid0.coords t 0).val] :=
  (by decide +kernel : ∀ t : Fin grid0.N, _)

/-- When the region starts, the first operand is the rows (a change of format changes no extended real) … -/
theorem V_rows (c : Dev nD) : V m c main_v0 = m ((c : Thread nD τ).loc main_arg0) := by
  entry_read; rfl

/-- … and the second is the weights. -/
theorem V_weights (c : Dev nD) : V m c main_v1 = m ((c : Thread nD τ).loc main_arg1) := by
  entry_read; rfl

/-- The result array: entry (r, n, x) is the projection's entry of token n·1 + r and column x. -/
def G (h : S16384x1024.Idx → EReal) (w : S2x1024x9216.Idx → EReal) (i : S1x16384x3072.Idx) : EReal :=
  proj h w 0 ((i 1).val * 1 + (i 0).val) (i 2).val (by idx_bounds i; omega) (by idx_bounds i; omega)

/-- After the run the result array is the projection: every point writes its block of it. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1]
  obtain ⟨e0, e1, e2⟩ := idx t
  idx_bounds y
  rw [scale_block _ (y 2).val (grid0.coords t 0).isLt (by omega)]
  blk_simp [iblk, V_rows, V_weights]
  unfold G proj
  blk_simp [e2]
  refine congrArg (· * _) (Finset.sum_congr rfl fun k _ => congrArg₂ (· * ·) ?_ ?_)
  · blk_ext [e0]
  · blk_ext [e1]

/-- Kernel and reference agree on the extended reals. -/
theorem alg : Cert.algebraic_QkvAIdeal_QkvRefAIdeal := by
  pair_intro
  · run_from Cert.QkvAIdeal.Gen.run_main m g
  · run_from Cert.QkvRefAIdeal.Value.run m' g'
    rw [final]
    funext i
    idx_bounds i
    pointwise
    rw [scale_third _ (by omega)]
    unfold G proj
    refine congrArg (· * _) (Finset.sum_congr rfl fun k _ => congrArg₂ (· * ·) ?_ ?_)
    · blk_ext
    · blk_ext

end Cert.QkvAIdeal.Layer
end
-- ==== Proof.Layer.QkvBValue.lean ====
module

public import proofs.«01_k».proof.Defs
public import proofs.«01_k».proof.Proof.Gen.QkvBIdeal.Value
public import proofs.«01_k».proof.Proof.Gen.QkvRefBIdeal.Run
public import proofs.«01_k».proof.Proof.Layer.QkvCommon

/-! The projection of group 1 (dilation 4): the kernel's result and the reference's are one function of the rows
and the weights. -/

@[expose] public section

set_option maxRecDepth 16384

noncomputable section

namespace Cert.QkvBIdeal.Layer

open Cert.QkvBIdeal Cert.QkvBIdeal.Gen Idealize.ShloMosaic Idealize.ShloMosaic.TcCoe Idealize.SL.Sem Cert.Layer
open Idealize.ShloMosaic.Pipeline (Dat)

variable (m : (ℓ : Loc nD τ sig) → Buf (Elt Ideal) ℓ) (ρ : Dev nD → PrngReg)

/-- The grid's index maps in closed form: the rows' block, the weights' block and the result's block at each point. -/
theorem idx : ∀ t : Fin cfg0.N,
    win0_0.index t = ![(grid0.coords t 1).val, 0] ∧ win0_1.index t = ![0, 0, 3 + (grid0.coords t 0).val]
      ∧ win0_2.index t = ![0, (grid0.coords t 1).val, (grid0.coords t 0).val] :=
  (by decide +kernel : ∀ t : Fin grid0.N, _)

/-- When the region starts, the first operand is the rows (a change of format changes no extended real) … -/
theorem V_rows (c : Dev nD) : V m c main_v0 = m ((c : Thread nD τ).loc main_arg0) := by
  entry_read; rfl

/-- … and the second is the weights. -/
theorem V_weights (c : Dev nD) : V m c main_v1 = m ((c : Thread nD τ).loc main_arg1) := by
  entry_read; rfl

/-- The result array: entry (r, n, x) is the projection's entry of token n·4 + r and column x. -/
def G (h : S16384x1024.Idx → EReal) (w : S2x1024x9216.Idx → EReal) (i : S4x4096x3072.Idx) : EReal :=
  proj h w 1 ((i 1).val * 4 + (i 0).val) (i 2).val (by idx_bounds i; omega) (by idx_bounds i; omega)

/-- The scratch after the eight stores of a point: chunk `y 0`, row `y 1`, lane `y 2` holds the scaled product's entry
    in row `y 1` and column `y 0`·128 + `y 2`. -/
theorem canon_acc (i : grid0.Coords) (x0 : Vec Ideal S1024x1024 .bf16) (x1 : Vec Ideal S1x1024x1024 .bf16) (y : S8x1024x128.Idx) :
    View.canon (Val := Elt Ideal) (e := .f32)
      [⟨Rect.unit (s := S8x1024x128) ![7, 0, 0] ![1, 1024, 128] inb_S8x1024x128_S1x1024x128_7_0_0, k0_pay10 (k0_pay2 i x0 x1)⟩,
       ⟨Rect.unit (s := S8x1024x128) ![6, 0, 0] ![1, 1024, 128] inb_S8x1024x128_S1x1024x128_6_0_0, k0_pay9 (k0_pay2 i x0 x1)⟩,
       ⟨Rect.unit (s := S8x1024x128) ![5, 0, 0] ![1, 1024, 128] inb_S8x1024x128_S1x1024x128_5_0_0, k0_pay8 (k0_pay2 i x0 x1)⟩,
       ⟨Rect.unit (s := S8x1024x128) ![4, 0, 0] ![1, 1024, 128] inb_S8x1024x128_S1x1024x128_4_0_0, k0_pay7 i x0 x1⟩,
       ⟨Rect.unit (s := S8x1024x128) ![3, 0, 0] ![1, 1024, 128] inb_S8x1024x128_S1x1024x128_3_0_0, k0_pay6 i x0 x1⟩,
       ⟨Rect.unit (s := S8x1024x128) ![2, 0, 0] ![1, 1024, 128] inb_S8x1024x128_S1x1024x128_2_0_0, k0_pay5 i x0 x1⟩,
       ⟨Rect.unit (s := S8x1024x128) ![1, 0, 0] ![1, 1024, 128] inb_S8x1024x128_S1x1024x128_1_0_0, k0_pay4 i x0 x1⟩,
       ⟨Rect.unit (s := S8x1024x128) ![0, 0, 0] ![1, 1024, 128] inb_S8x1024x128_S1x1024x128_0_0_0, k0_pay3 i x0 x1⟩] y
      = k0_pay2 i x0 x1 (ix2 (y 1) ⟨(y 0).val * 128 + (y 2).val, by idx_bounds y; omega⟩) := by
  generalize hA : k0_pay2 i x0 x1 = A
  canon_tiles x h
  all_goals
    simp only [k0_pay10, k0_pay9, k0_pay8, k0_pay7, k0_pay6, k0_pay5, k0_pay4, k0_pay3, hA]
    pointwise
    refine congrArg A ?_
    blk_ext

/-- The scaled product at a row and a column. -/
theorem scaled_at (i : grid0.Coords) (x0 : Vec Ideal S1024x1024 .bf16) (x1 : Vec Ideal S1x1024x1024 .bf16) (r n : Fin 1024) :
    k0_pay2 i x0 x1 (ix2 r n)
      = (∑ k : Fin 1024, (x0 (ix2 r k) * x1 (ix3 (0 : Fin 1) k n) : EReal))
        * (if (i 0).val * 1024 + n.val < 1024 then Ideal.ofBits FTy.f32 0x3E38AA3B#32 else 1) := by
  pointwise [k0_pay2]
  rw [scale_block _ n.val (i 0).isLt n.isLt]

/-- A block of the result: eight strided reads of the scratch, side by side, are the rows `r`, `r + 4`, … of the scaled
    product, whole. -/
theorem piece (A : S1024x1024.Idx → EReal) (r : ℕ) (hr : r < 4) (p0 p1 p2 p3 p4 p5 p6 p7 : Vec Ideal S1x256x128 .f32)
    (hp : ∀ (q : Fin 8) (j : S1x256x128.Idx), (![p0, p1, p2, p3, p4, p5, p6, p7] : Fin 8 → Vec Ideal S1x256x128 .f32) q j
      = A (ix2 ⟨(j 1).val * 4 + r, by idx_bounds j; omega⟩ ⟨q.val * 128 + (j 2).val, by idx_bounds j; omega⟩))
    (x : S1x256x1024.Idx) :
    shapeCast S1x256x1024 (truncf (F := Ideal) .bf16 (concatenate S256x1024 1
        [⟨S256x128, shapeCast S256x128 p0 shapeCasts_S1x256x128_S256x128⟩,
         ⟨S256x128, shapeCast S256x128 p1 shapeCasts_S1x256x128_S256x128⟩,
         ⟨S256x128, shapeCast S256x128 p2 shapeCasts_S1x256x128_S256x128⟩,
         ⟨S256x128, shapeCast S256x128 p3 shapeCasts_S1x256x128_S256x128⟩,
         ⟨S256x128, shapeCast S256x128 p4 shapeCasts_S1x256x128_S256x128⟩,
         ⟨S256x128, shapeCast S256x128 p5 shapeCasts_S1x256x128_S256x128⟩,
         ⟨S256x128, shapeCast S256x128 p6 shapeCasts_S1x256x128_S256x128⟩,
         ⟨S256x128, shapeCast S256x128 p7 shapeCasts_S1x256x128_S256x128⟩]
        concatenates_S256x128_S256x128_S256x128_S256x128_S256x128_S256x128_S256x128_S256x128_S256x1024_d1) bitsLt_bf16_f32)
      shapeCasts_S256x1024_S1x256x1024 x
      = A (ix2 ⟨(x 1).val * 4 + r, by idx_bounds x; omega⟩ ⟨(x 2).val, by idx_bounds x; omega⟩) := by
  have h0 := hp 0
  have h1 := hp 1
  have h2 := hp 2
  have h3 := hp 3
  have h4 := hp 4
  have h5 := hp 5
  have h6 := hp 6
  have h7 := hp 7
  clear hp
  simp only [Matrix.cons_val, Matrix.cons_val_zero, Matrix.cons_val_one] at h0 h1 h2 h3 h4 h5 h6 h7
  idx_bounds x
  pointwise
  simp only [h0, h1, h2, h3, h4, h5, h6, h7]
  repeat' split
  all_goals
    refine congrArg A ?_
    blk_ext

set_option maxHeartbeats 2000000 in
/-- After the run the result array is the projection: every point writes its block of it. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  simp only [View.readCov_eq_canon']
  simp only [canon_acc]
  have hA := scaled_at (grid0.coords t) (iblk m c 0 t) (iblk m c 1 t)
  generalize k0_pay2 (grid0.coords t) (iblk m c 0 t) (iblk m c 1 t) = A at hA ⊢
  obtain ⟨e0, e1, e2⟩ := idx t
  idx_bounds y
  have hG : A (ix2 ⟨(y 1).val * 4 + (y 0).val, by omega⟩ ⟨(y 2).val, by omega⟩)
      = G (m ((c : Thread nD τ).loc main_arg0)) (m ((c : Thread nD τ).loc main_arg1)) (((View.whole main_v2).slice (win0_2.rect t)).emb y) := by
    rw [hA]
    blk_simp [iblk, V_rows, V_weights]
    unfold G proj
    blk_simp [e2]
    refine congrArg (· * _) (Finset.sum_congr rfl fun k _ => congrArg₂ (· * ·) ?_ ?_)
    · blk_ext [e0]
    · blk_ext [e1]
  canon_tiles x h
  all_goals
    unfold_payloads
    refine (piece A (y 0).val (by omega) _ _ _ _ _ _ _ _ ?_ x).trans ?_
    · intro q j
      idx_bounds j
      fin_cases q
      all_goals
        refine congrArg A (congrArg₂ ix2 (Fin.ext ?_) (Fin.ext ?_)) <;>
          simp [LoadRect.idx] <;> omega
    · refine (congrArg A (congrArg₂ ix2 (Fin.ext ?_) (Fin.ext ?_))).trans hG <;> dsimp only <;> omega

/-- Kernel and reference agree on the extended reals. -/
theorem alg : Cert.algebraic_QkvBIdeal_QkvRefBIdeal := by
  pair_intro
  · run_from Cert.QkvBIdeal.Gen.run_main m g
  · run_from Cert.QkvRefBIdeal.Value.run m' g'
    rw [final]
    funext i
    idx_bounds i
    pointwise
    rw [scale_third _ (by omega)]
    unfold G proj
    refine congrArg (· * _) (Finset.sum_congr rfl fun k _ => congrArg₂ (· * ·) ?_ ?_)
    · blk_ext
    · blk_ext

end Cert.QkvBIdeal.Layer
end
-- ==== Proof.Layer.QkvCValue.lean ====
module

public import proofs.«01_k».proof.Defs
public import proofs.«01_k».proof.Proof.Gen.QkvCIdeal.Value
public import proofs.«01_k».proof.Proof.Gen.QkvRefCIdeal.Run
public import proofs.«01_k».proof.Proof.Layer.QkvCommon

/-! The projection of group 2 (dilation 16): the kernel's result and the reference's are one function of the rows
and the weights. -/

@[expose] public section

set_option maxRecDepth 16384

noncomputable section

namespace Cert.QkvCIdeal.Layer

open Cert.QkvCIdeal Cert.QkvCIdeal.Gen Idealize.ShloMosaic Idealize.ShloMosaic.TcCoe Idealize.SL.Sem Cert.Layer
open Idealize.ShloMosaic.Pipeline (Dat)

variable (m : (ℓ : Loc nD τ sig) → Buf (Elt Ideal) ℓ) (ρ : Dev nD → PrngReg)

/-- The grid's index maps in closed form: the rows' block, the weights' block and the result's block at each point. -/
theorem idx : ∀ t : Fin cfg0.N,
    win0_0.index t = ![(grid0.coords t 1).val, 0] ∧ win0_1.index t = ![0, 0, 6 + (grid0.coords t 0).val]
      ∧ win0_2.index t = ![0, (grid0.coords t 1).val, (grid0.coords t 0).val] :=
  (by decide +kernel : ∀ t : Fin grid0.N, _)

/-- When the region starts, the first operand is the rows (a change of format changes no extended real) … -/
theorem V_rows (c : Dev nD) : V m c main_v0 = m ((c : Thread nD τ).loc main_arg0) := by
  entry_read; rfl

/-- … and the second is the weights. -/
theorem V_weights (c : Dev nD) : V m c main_v1 = m ((c : Thread nD τ).loc main_arg1) := by
  entry_read; rfl

/-- The result array: entry (r, n, x) is the projection's entry of token n·16 + r and column x. -/
def G (h : S16384x1024.Idx → EReal) (w : S2x1024x9216.Idx → EReal) (i : S16x1024x3072.Idx) : EReal :=
  proj h w 2 ((i 1).val * 16 + (i 0).val) (i 2).val (by idx_bounds i; omega) (by idx_bounds i; omega)

/-- The scratch after the eight stores of a point: chunk `y 0`, row `y 1`, lane `y 2` holds the scaled product's entry
    in row `y 1` and column `y 0`·128 + `y 2`. -/
theorem canon_acc (i : grid0.Coords) (x0 : Vec Ideal S1024x1024 .bf16) (x1 : Vec Ideal S1x1024x1024 .bf16) (y : S8x1024x128.Idx) :
    View.canon (Val := Elt Ideal) (e := .f32)
      [⟨Rect.unit (s := S8x1024x128) ![7, 0, 0] ![1, 1024, 128] inb_S8x1024x128_S1x1024x128_7_0_0, k0_pay10 (k0_pay2 i x0 x1)⟩,
       ⟨Rect.unit (s := S8x1024x128) ![6, 0, 0] ![1, 1024, 128] inb_S8x1024x128_S1x1024x128_6_0_0, k0_pay9 (k0_pay2 i x0 x1)⟩,
       ⟨Rect.unit (s := S8x1024x128) ![5, 0, 0] ![1, 1024, 128] inb_S8x1024x128_S1x1024x128_5_0_0, k0_pay8 (k0_pay2 i x0 x1)⟩,
       ⟨Rect.unit (s := S8x1024x128) ![4, 0, 0] ![1, 1024, 128] inb_S8x1024x128_S1x1024x128_4_0_0, k0_pay7 i x0 x1⟩,
       ⟨Rect.unit (s := S8x1024x128) ![3, 0, 0] ![1, 1024, 128] inb_S8x1024x128_S1x1024x128_3_0_0, k0_pay6 i x0 x1⟩,
       ⟨Rect.unit (s := S8x1024x128) ![2, 0, 0] ![1, 1024, 128] inb_S8x1024x128_S1x1024x128_2_0_0, k0_pay5 i x0 x1⟩,
       ⟨Rect.unit (s := S8x1024x128) ![1, 0, 0] ![1, 1024, 128] inb_S8x1024x128_S1x1024x128_1_0_0, k0_pay4 i x0 x1⟩,
       ⟨Rect.unit (s := S8x1024x128) ![0, 0, 0] ![1, 1024, 128] inb_S8x1024x128_S1x1024x128_0_0_0, k0_pay3 i x0 x1⟩] y
      = k0_pay2 i x0 x1 (ix2 (y 1) ⟨(y 0).val * 128 + (y 2).val, by idx_bounds y; omega⟩) := by
  generalize hA : k0_pay2 i x0 x1 = A
  canon_tiles x h
  all_goals
    simp only [k0_pay10, k0_pay9, k0_pay8, k0_pay7, k0_pay6, k0_pay5, k0_pay4, k0_pay3, hA]
    pointwise
    refine congrArg A ?_
    blk_ext

/-- The scaled product at a row and a column. -/
theorem scaled_at (i : grid0.Coords) (x0 : Vec Ideal S1024x1024 .bf16) (x1 : Vec Ideal S1x1024x1024 .bf16) (r n : Fin 1024) :
    k0_pay2 i x0 x1 (ix2 r n)
      = (∑ k : Fin 1024, (x0 (ix2 r k) * x1 (ix3 (0 : Fin 1) k n) : EReal))
        * (if (i 0).val * 1024 + n.val < 1024 then Ideal.ofBits FTy.f32 0x3E38AA3B#32 else 1) := by
  pointwise [k0_pay2]
  rw [scale_block _ n.val (i 0).isLt n.isLt]

/-- A block of the result: eight strided reads of the scratch, side by side, are the rows `r`, `r + 16`, … of the scaled
    product, whole. -/
theorem piece (A : S1024x1024.Idx → EReal) (r : ℕ) (hr : r < 16) (p0 p1 p2 p3 p4 p5 p6 p7 : Vec Ideal S1x64x128 .f32)
    (hp : ∀ (q : Fin 8) (j : S1x64x128.Idx), (![p0, p1, p2, p3, p4, p5, p6, p7] : Fin 8 → Vec Ideal S1x64x128 .f32) q j
      = A (ix2 ⟨(j 1).val * 16 + r, by idx_bounds j; omega⟩ ⟨q.val * 128 + (j 2).val, by idx_bounds j; omega⟩))
    (x : S1x64x1024.Idx) :
    shapeCast S1x64x1024 (truncf (F := Ideal) .bf16 (concatenate S64x1024 1
        [⟨S64x128, shapeCast S64x128 p0 shapeCasts_S1x64x128_S64x128⟩,
         ⟨S64x128, shapeCast S64x128 p1 shapeCasts_S1x64x128_S64x128⟩,
         ⟨S64x128, shapeCast S64x128 p2 shapeCasts_S1x64x128_S64x128⟩,
         ⟨S64x128, shapeCast S64x128 p3 shapeCasts_S1x64x128_S64x128⟩,
         ⟨S64x128, shapeCast S64x128 p4 shapeCasts_S1x64x128_S64x128⟩,
         ⟨S64x128, shapeCast S64x128 p5 shapeCasts_S1x64x128_S64x128⟩,
         ⟨S64x128, shapeCast S64x128 p6 shapeCasts_S1x64x128_S64x128⟩,
         ⟨S64x128, shapeCast S64x128 p7 shapeCasts_S1x64x128_S64x128⟩]
        concatenates_S64x128_S64x128_S64x128_S64x128_S64x128_S64x128_S64x128_S64x128_S64x1024_d1) bitsLt_bf16_f32)
      shapeCasts_S64x1024_S1x64x1024 x
      = A (ix2 ⟨(x 1).val * 16 + r, by idx_bounds x; omega⟩ ⟨(x 2).val, by idx_bounds x; omega⟩) := by
  have h0 := hp 0
  have h1 := hp 1
  have h2 := hp 2
  have h3 := hp 3
  have h4 := hp 4
  have h5 := hp 5
  have h6 := hp 6
  have h7 := hp 7
  clear hp
  simp only [Matrix.cons_val, Matrix.cons_val_zero, Matrix.cons_val_one] at h0 h1 h2 h3 h4 h5 h6 h7
  idx_bounds x
  pointwise
  simp only [h0, h1, h2, h3, h4, h5, h6, h7]
  repeat' split
  all_goals
    refine congrArg A ?_
    blk_ext

set_option maxHeartbeats 2000000 in
/-- After the run the result array is the projection: every point writes its block of it. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  simp only [View.readCov_eq_canon']
  simp only [canon_acc]
  have hA := scaled_at (grid0.coords t) (iblk m c 0 t) (iblk m c 1 t)
  generalize k0_pay2 (grid0.coords t) (iblk m c 0 t) (iblk m c 1 t) = A at hA ⊢
  obtain ⟨e0, e1, e2⟩ := idx t
  idx_bounds y
  have hG : A (ix2 ⟨(y 1).val * 16 + (y 0).val, by omega⟩ ⟨(y 2).val, by omega⟩)
      = G (m ((c : Thread nD τ).loc main_arg0)) (m ((c : Thread nD τ).loc main_arg1)) (((View.whole main_v2).slice (win0_2.rect t)).emb y) := by
    rw [hA]
    blk_simp [iblk, V_rows, V_weights]
    unfold G proj
    blk_simp [e2]
    refine congrArg (· * _) (Finset.sum_congr rfl fun k _ => congrArg₂ (· * ·) ?_ ?_)
    · blk_ext [e0]
    · blk_ext [e1]
  canon_tiles x h
  all_goals
    unfold_payloads
    refine (piece A (y 0).val (by omega) _ _ _ _ _ _ _ _ ?_ x).trans ?_
    · intro q j
      idx_bounds j
      fin_cases q
      all_goals
        refine congrArg A (congrArg₂ ix2 (Fin.ext ?_) (Fin.ext ?_)) <;>
          simp [LoadRect.idx] <;> omega
    · refine (congrArg A (congrArg₂ ix2 (Fin.ext ?_) (Fin.ext ?_))).trans hG <;> dsimp only <;> omega

/-- Kernel and reference agree on the extended reals. -/
theorem alg : Cert.algebraic_QkvCIdeal_QkvRefCIdeal := by
  pair_intro
  · run_from Cert.QkvCIdeal.Gen.run_main m g
  · run_from Cert.QkvRefCIdeal.Value.run m' g'
    rw [final]
    funext i
    idx_bounds i
    pointwise
    rw [scale_third _ (by omega)]
    unfold G proj
    refine congrArg (· * _) (Finset.sum_congr rfl fun k _ => congrArg₂ (· * ·) ?_ ?_)
    · blk_ext
    · blk_ext

end Cert.QkvCIdeal.Layer
end
-- ==== Proof.lean ====
/- The claim about the layer's calls, put together: the frames of the programs and of their references, and the equations
   between them. -/
module

public import proofs.«01_k».proof.Defs
public import proofs.«01_k».proof.Proof.Gen.Attn.Frame
public import proofs.«01_k».proof.Proof.Gen.QkvA.Frame
public import proofs.«01_k».proof.Proof.Gen.QkvB.Frame
public import proofs.«01_k».proof.Proof.Gen.QkvC.Frame
public import proofs.«01_k».proof.Proof.Gen.AttnIdeal.Frame
public import proofs.«01_k».proof.Proof.Gen.Pre_finite
public import proofs.«01_k».proof.Proof.Layer.RefFrames
public import proofs.«01_k».proof.Proof.Layer.AttnValue
public import proofs.«01_k».proof.Proof.Layer.ExpertsValue
public import proofs.«01_k».proof.Proof.Layer.QkvAValue
public import proofs.«01_k».proof.Proof.Layer.QkvBValue
public import proofs.«01_k».proof.Proof.Layer.QkvCValue

@[expose] public section

noncomputable section

namespace Cert.Proof

open Idealize.ShloMosaic Idealize.SL.Sem

/-- Every claim made about the programs. -/
theorem claim : Cert.Claim :=
  ⟨Cert.Attn.Gen.facts, Cert.AttnIdeal.Gen.facts, Cert.AttnRefIdeal.Gen.facts,
    Cert.Experts.Gen.facts, Cert.ExpertsIdeal.Gen.facts, Cert.ExpertsRefIdeal.Gen.facts,
    Cert.QkvA.Gen.facts, Cert.QkvAIdeal.Gen.facts, Cert.QkvRefAIdeal.Gen.facts,
    Cert.QkvB.Gen.facts, Cert.QkvBIdeal.Gen.facts, Cert.QkvRefBIdeal.Gen.facts,
    Cert.QkvC.Gen.facts, Cert.QkvCIdeal.Gen.facts, Cert.QkvRefCIdeal.Gen.facts,
    Cert.Pre_finite.Gen.facts,
    fun m ρ _ => Cert.Attn.Gen.frame m ρ, fun m ρ _ => Cert.AttnIdeal.Gen.frame m ρ, fun m ρ _ => Cert.AttnIdeal.Gen.frame m ρ,
    Cert.Layer.frame_AttnRefIdeal, fun m ρ _ => Cert.Layer.frame_AttnRefIdeal m ρ trivial,
    Cert.ExpertsIdeal.Layer.frame_Experts, Cert.ExpertsIdeal.Layer.frame_ExpertsIdeal, Cert.ExpertsIdeal.Layer.frame_ExpertsRefIdeal,
    fun m ρ _ => Cert.QkvA.Gen.frame m ρ, fun m ρ _ => Cert.QkvAIdeal.Gen.frame m ρ, Cert.Layer.frame_QkvRefAIdeal,
    fun m ρ _ => Cert.QkvB.Gen.frame m ρ, fun m ρ _ => Cert.QkvBIdeal.Gen.frame m ρ, Cert.Layer.frame_QkvRefBIdeal,
    fun m ρ _ => Cert.QkvC.Gen.frame m ρ, fun m ρ _ => Cert.QkvCIdeal.Gen.frame m ρ, Cert.Layer.frame_QkvRefCIdeal,
    IdealRules.named_const.statement Cert.AttnIdeal.κ "mask" .f32 0xF149F2CA#32 ⊥ rfl, Cert.AttnIdeal.Layer.alg,
    trivial, Cert.ExpertsIdeal.Layer.alg, trivial, Cert.QkvAIdeal.Layer.alg, trivial, Cert.QkvBIdeal.Layer.alg, trivial, Cert.QkvCIdeal.Layer.alg⟩

end Cert.Proof

end
